-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dequant (m : (ℓ : Loc Cert.Dequant.nD Cert.Dequant.τ Cert.Dequant.sig) → Buf (Elt Bits) ℓ) : Prop :=
  True

def Pre_DequantIdeal (m : (ℓ : Loc Cert.DequantIdeal.nD Cert.DequantIdeal.τ Cert.DequantIdeal.sig) → Buf (Elt Ideal) ℓ) : Prop :=
  True

def Pre_DequantRefIdeal (m : (ℓ : Loc Cert.DequantRefIdeal.nD Cert.DequantRefIdeal.τ Cert.DequantRefIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXRefIdeal (m : (ℓ : Loc Cert.QuantXRefIdeal.nD Cert.QuantXRefIdeal.τ Cert.QuantXRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Dequant [hDequant : Cert.Dequant.Facts] : Prop :=
  ∀ (m : (ℓ : Loc Cert.Dequant.nD Cert.Dequant.τ Cert.Dequant.sig) → Buf (Elt Bits) ℓ) (g : Dev Cert.Dequant.nD → PrngReg), Pre_Dequant m →
    θ_run (Cert.Dequant.defs (F := Bits)) (onTc (τ := Cert.Dequant.τ) (Cert.Dequant.main (F := Bits))) ⟨m, fun _ => 0, g⟩ (fun r => (∀ c : Dev Cert.Dequant.nD,
      r.2.mem ((c.tc : Thread Cert.Dequant.nD Cert.Dequant.τ).loc Cert.Dequant.main_arg0) = m ((c.tc : Thread Cert.Dequant.nD Cert.Dequant.τ).loc Cert.Dequant.main_arg0)
      ∧ r.2.mem ((c.tc : Thread Cert.Dequant.nD Cert.Dequant.τ).loc Cert.Dequant.main_arg1) = m ((c.tc : Thread Cert.Dequant.nD Cert.Dequant.τ).loc Cert.Dequant.main_arg1))
      ∧ r.2.sem = fun _ => 0)

def quiescent_DequantIdeal [hDequantIdeal : Cert.DequantIdeal.Facts] : Prop :=
  ∀ (m : (ℓ : Loc Cert.DequantIdeal.nD Cert.DequantIdeal.τ Cert.DequantIdeal.sig) → Buf (Elt Ideal) ℓ) (g : Dev Cert.DequantIdeal.nD → PrngReg), Pre_DequantIdeal m →
    θ_run (Cert.DequantIdeal.defs (F := Ideal)) (onTc (τ := Cert.DequantIdeal.τ) (Cert.DequantIdeal.main (F := Ideal))) ⟨m, fun _ => 0, g⟩ (fun r => (∀ c : Dev Cert.DequantIdeal.nD,
      r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
      ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ r.2.sem = fun _ => 0)

def quiescent_DequantRefIdeal [hDequantRefIdeal : Cert.DequantRefIdeal.Facts] : Prop :=
  ∀ (m : (ℓ : Loc Cert.DequantRefIdeal.nD Cert.DequantRefIdeal.τ Cert.DequantRefIdeal.sig) → Buf (Elt Ideal) ℓ) (g : Dev Cert.DequantRefIdeal.nD → PrngReg), Pre_DequantRefIdeal m →
    θ_run (Cert.DequantRefIdeal.defs (F := Ideal)) (onTc (τ := Cert.DequantRefIdeal.τ) (Cert.DequantRefIdeal.main (F := Ideal))) ⟨m, fun _ => 0, g⟩ (fun r => (∀ c : Dev Cert.DequantRefIdeal.nD,
      r.2.mem ((c.tc : Thread Cert.DequantRefIdeal.nD Cert.DequantRefIdeal.τ).loc Cert.DequantRefIdeal.main_arg0) = m ((c.tc : Thread Cert.DequantRefIdeal.nD Cert.DequantRefIdeal.τ).loc Cert.DequantRefIdeal.main_arg0)
      ∧ r.2.mem ((c.tc : Thread Cert.DequantRefIdeal.nD Cert.DequantRefIdeal.τ).loc Cert.DequantRefIdeal.main_arg1) = m ((c.tc : Thread Cert.DequantRefIdeal.nD Cert.DequantRefIdeal.τ).loc Cert.DequantRefIdeal.main_arg1))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Dequant_DequantIdeal : Prop :=
  True

def algebraic_DequantIdeal_DequantRefIdeal [hDequantIdeal : Cert.DequantIdeal.Facts] [hDequantRefIdeal : Cert.DequantRefIdeal.Facts] : Prop :=
  ∀ (m : (ℓ : Loc Cert.DequantIdeal.nD Cert.DequantIdeal.τ Cert.DequantIdeal.sig) → Buf (Elt Ideal) ℓ) (g : Dev Cert.DequantIdeal.nD → PrngReg)
    (m' : (ℓ : Loc Cert.DequantRefIdeal.nD Cert.DequantRefIdeal.τ Cert.DequantRefIdeal.sig) → Buf (Elt Ideal) ℓ) (g' : Dev Cert.DequantRefIdeal.nD → PrngReg), Pre_DequantIdeal m →
    (∀ c : Dev Cert.DequantIdeal.nD,
      m' ((c.tc : Thread Cert.DequantRefIdeal.nD Cert.DequantRefIdeal.τ).loc Cert.DequantRefIdeal.main_arg0) = m ((c.tc : Thread Cert.DequantIdeal.nD Cert.DequantIdeal.τ).loc Cert.DequantIdeal.main_arg0)
      ∧ m' ((c.tc : Thread Cert.DequantRefIdeal.nD Cert.DequantRefIdeal.τ).loc Cert.DequantRefIdeal.main_arg1) = m ((c.tc : Thread Cert.DequantIdeal.nD Cert.DequantIdeal.τ).loc Cert.DequantIdeal.main_arg1)) →
    ∃ (v0 : (c : Dev Cert.DequantIdeal.nD) → Buf (Elt Ideal) ((c.tc : Thread Cert.DequantIdeal.nD Cert.DequantIdeal.τ).loc Cert.DequantIdeal.main_v1)),
      θ_run (Cert.DequantIdeal.defs (F := Ideal)) (onTc (τ := Cert.DequantIdeal.τ) (Cert.DequantIdeal.main (F := Ideal))) ⟨m, fun _ => 0, g⟩ (fun r => ∀ c : Dev Cert.DequantIdeal.nD,
          r.2.mem ((c.tc : Thread Cert.DequantIdeal.nD Cert.DequantIdeal.τ).loc Cert.DequantIdeal.main_v1) = v0 c
          ∧ r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
          ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ θ_run (Cert.DequantRefIdeal.defs (F := Ideal)) (onTc (τ := Cert.DequantRefIdeal.τ) (Cert.DequantRefIdeal.main (F := Ideal))) ⟨m', fun _ => 0, g'⟩ (fun r => ∀ c : Dev Cert.DequantRefIdeal.nD,
          r.2.mem ((c.tc : Thread Cert.DequantRefIdeal.nD Cert.DequantRefIdeal.τ).loc Cert.DequantRefIdeal.main_v0) = v0 c
          ∧ r.2.mem ((c.tc : Thread Cert.DequantRefIdeal.nD Cert.DequantRefIdeal.τ).loc Cert.DequantRefIdeal.main_arg0) = m' ((c.tc : Thread Cert.DequantRefIdeal.nD Cert.DequantRefIdeal.τ).loc Cert.DequantRefIdeal.main_arg0)
          ∧ r.2.mem ((c.tc : Thread Cert.DequantRefIdeal.nD Cert.DequantRefIdeal.τ).loc Cert.DequantRefIdeal.main_arg1) = m' ((c.tc : Thread Cert.DequantRefIdeal.nD Cert.DequantRefIdeal.τ).loc Cert.DequantRefIdeal.main_arg1))

def preserves_QuantX_QuantXIdeal : Prop :=
  True

def algebraic_QuantXIdeal_QuantXRefIdeal [hQuantXIdeal : Cert.QuantXIdeal.Facts] [hQuantXRefIdeal : Cert.QuantXRefIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v0_0)) (v1 : (c : Dev Cert.QuantXIdeal.nD) → Buf (Elt Ideal) ((c.tc : Thread Cert.QuantXIdeal.nD Cert.QuantXIdeal.τ).loc Cert.QuantXIdeal.main_v0_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_0) = v0 c
          ∧ r.2.mem ((c.tc : Thread Cert.QuantXIdeal.nD Cert.QuantXIdeal.τ).loc Cert.QuantXIdeal.main_v0_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v0_0) = v0 c
          ∧ r.2.mem ((c.tc : Thread Cert.QuantXRefIdeal.nD Cert.QuantXRefIdeal.τ).loc Cert.QuantXRefIdeal.main_v0_1) = v1 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)) (v2 : (c : Dev Cert.GateUpIdeal.nD) → Buf (Elt Ideal) ((c.tc : Thread Cert.GateUpIdeal.nD Cert.GateUpIdeal.τ).loc Cert.GateUpIdeal.main_v1_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_v1_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def Claim : Prop :=
  ∃ (hDown : Cert.Down.Facts) (hDownIdeal : Cert.DownIdeal.Facts) (hDownRefIdeal : Cert.DownRefIdeal.Facts) (hDequant : Cert.Dequant.Facts) (hDequantIdeal : Cert.DequantIdeal.Facts) (hDequantRefIdeal : Cert.DequantRefIdeal.Facts) (hQuantX : Cert.QuantX.Facts) (hQuantXIdeal : Cert.QuantXIdeal.Facts) (hQuantXRefIdeal : Cert.QuantXRefIdeal.Facts) (hGateUp : Cert.GateUp.Facts) (hGateUpIdeal : Cert.GateUpIdeal.Facts) (hGateUpRefIdeal : Cert.GateUpRefIdeal.Facts),
    quiescent_Down (hDown := hDown)
    ∧ quiescent_DownIdeal (hDownIdeal := hDownIdeal)
    ∧ quiescent_DownRefIdeal (hDownRefIdeal := hDownRefIdeal)
    ∧ quiescent_Dequant (hDequant := hDequant)
    ∧ quiescent_DequantIdeal (hDequantIdeal := hDequantIdeal)
    ∧ quiescent_DequantRefIdeal (hDequantRefIdeal := hDequantRefIdeal)
    ∧ quiescent_QuantX (hQuantX := hQuantX)
    ∧ quiescent_QuantXIdeal (hQuantXIdeal := hQuantXIdeal)
    ∧ quiescent_QuantXRefIdeal (hQuantXRefIdeal := hQuantXRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ preserves_Down_DownIdeal
    ∧ algebraic_DownIdeal_DownRefIdeal (hDownIdeal := hDownIdeal) (hDownRefIdeal := hDownRefIdeal)
    ∧ preserves_Dequant_DequantIdeal
    ∧ algebraic_DequantIdeal_DequantRefIdeal (hDequantIdeal := hDequantIdeal) (hDequantRefIdeal := hDequantRefIdeal)
    ∧ preserves_QuantX_QuantXIdeal
    ∧ algebraic_QuantXIdeal_QuantXRefIdeal (hQuantXIdeal := hQuantXIdeal) (hQuantXRefIdeal := hQuantXRefIdeal)
    ∧ preserves_GateUp_GateUpIdeal
    ∧ algebraic_GateUpIdeal_GateUpRefIdeal (hGateUpIdeal := hGateUpIdeal) (hGateUpRefIdeal := hGateUpRefIdeal)
-- ==== Down.lean ====
abbrev S16384x6144 : Shape := ⟨2, ![16384, 6144]⟩
abbrev S6144x2048 : Shape := ⟨2, ![6144, 2048]⟩
abbrev S16384x2048 : Shape := ⟨2, ![16384, 2048]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x6144, .bf16⟩
  | .hbm, ⟨1, _⟩ => ⟨S6144x2048, .bf16⟩
  | .hbm, ⟨2, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S16384x6144 : Shape := ⟨2, ![16384, 6144]⟩
abbrev S6144x2048 : Shape := ⟨2, ![6144, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S6144x2048, .bf16⟩
  | .hbm, ⟨2, _⟩ => ⟨S16384x2048, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dequant.lean ====
abbrev S6144x2048 : Shape := ⟨2, ![6144, 2048]⟩
abbrev S192x2048 : Shape := ⟨2, ![192, 2048]⟩
abbrev S6144x256 : Shape := ⟨2, ![6144, 256]⟩
abbrev S192x256 : Shape := ⟨2, ![192, 256]⟩
abbrev S192x32x256 : Shape := ⟨3, ![192, 32, 256]⟩
abbrev S192x1x256 : Shape := ⟨3, ![192, 1, 256]⟩

abbrev nBuf : Space → Nat
  | .hbm => 4
  | .vmem => 6
  | .smem => 0
  | _ => 0

abbrev bufTy : (tb : Table) → Fin (tcTables nBuf tb) → BufTy
  | .hbm, ⟨0, _⟩ => ⟨S6144x2048, .fp8e4m3⟩
  | .hbm, ⟨1, _⟩ => ⟨S192x2048, .i8⟩
  | .hbm, ⟨2, _⟩ => ⟨S192x2048, .i32⟩
  | .hbm, ⟨3, _⟩ => ⟨S6144x2048, .bf16⟩
  | .local _ .vmem, ⟨0, _⟩ => ⟨S6144x256, .fp8e4m3⟩
  | .local _ .vmem, ⟨1, _⟩ => ⟨S6144x256, .fp8e4m3⟩
  | .local _ .vmem, ⟨2, _⟩ => ⟨S192x256, .i32⟩
  | .local _ .vmem, ⟨3, _⟩ => ⟨S192x256, .i32⟩
  | .local _ .vmem, ⟨4, _⟩ => ⟨S6144x256, .bf16⟩
  | .local _ .vmem, ⟨5, _⟩ => ⟨S6144x256, .bf16⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6144x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DequantRefIdeal.lean ====
abbrev S6144x2048 : Shape := ⟨2, ![6144, 2048]⟩
abbrev S192x2048 : Shape := ⟨2, ![192, 2048]⟩
abbrev S192x32x2048 : Shape := ⟨3, ![192, 32, 2048]⟩
abbrev S192x1x2048 : Shape := ⟨3, ![192, 1, 2048]⟩

abbrev nBuf : Space → Nat
  | .hbm => 3
  | .vmem => 3
  | .smem => 0
  | _ => 0

abbrev bufTy : (tb : Table) → Fin (tcTables nBuf tb) → BufTy
  | .hbm, ⟨0, _⟩ => ⟨S6144x2048, .fp8e4m3⟩
  | .hbm, ⟨1, _⟩ => ⟨S192x2048, .i8⟩
  | .hbm, ⟨2, _⟩ => ⟨S6144x2048, .bf16⟩
  | .local _ .vmem, ⟨0, _⟩ => ⟨S6144x2048, .fp8e4m3⟩
  | .local _ .vmem, ⟨1, _⟩ => ⟨S192x2048, .i8⟩
  | .local _ .vmem, ⟨2, _⟩ => ⟨S6144x2048, .bf16⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QuantX.lean ====
abbrev S16384x2048 : Shape := ⟨2, ![16384, 2048]⟩
abbrev S16384x64 : Shape := ⟨2, ![16384, 64]⟩
abbrev S512x2048 : Shape := ⟨2, ![512, 2048]⟩
abbrev S512x64 : Shape := ⟨2, ![512, 64]⟩
abbrev S2048x512 : Shape := ⟨2, ![2048, 512]⟩
abbrev S64x32x512 : Shape := ⟨3, ![64, 32, 512]⟩
abbrev S64x512 : Shape := ⟨2, ![64, 512]⟩
abbrev S64x1x512 : Shape := ⟨3, ![64, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .fp8e4m3⟩
  | .hbm, ⟨2, _⟩ => ⟨S16384x64, .i8⟩
  | .local _ .vmem, ⟨0, _⟩ => ⟨S512x2048, .f32⟩
  | .local _ .vmem, ⟨1, _⟩ => ⟨S512x2048, .f32⟩
  | .local _ .vmem, ⟨2, _⟩ => ⟨S512x2048, .fp8e4m3⟩
  | .local _ .vmem, ⟨3, _⟩ => ⟨S512x2048, .fp8e4m3⟩
  | .local _ .vmem, ⟨4, _⟩ => ⟨S512x64, .i8⟩
  | .local _ .vmem, ⟨5, _⟩ => ⟨S512x64, .i8⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantXRefIdeal.lean ====
abbrev S16384x2048 : Shape := ⟨2, ![16384, 2048]⟩
abbrev S16384x64 : Shape := ⟨2, ![16384, 64]⟩
abbrev S16384x64x32 : Shape := ⟨3, ![16384, 64, 32]⟩
abbrev S16384x64x1 : Shape := ⟨3, ![16384, 64, 1]⟩
abbrev S16384x64x253 : Shape := ⟨3, ![16384, 64, 253]⟩

abbrev nBuf : Space → Nat
  | .hbm => 3
  | .vmem => 3
  | .smem => 0
  | _ => 0

abbrev bufTy : (tb : Table) → Fin (tcTables nBuf tb) → BufTy
  | .hbm, ⟨0, _⟩ => ⟨S16384x2048, .f32⟩
  | .hbm, ⟨1, _⟩ => ⟨S16384x2048, .fp8e4m3⟩
  | .hbm, ⟨2, _⟩ => ⟨S16384x64, .i8⟩
  | .local _ .vmem, ⟨0, _⟩ => ⟨S16384x2048, .f32⟩
  | .local _ .vmem, ⟨1, _⟩ => ⟨S16384x2048, .fp8e4m3⟩
  | .local _ .vmem, ⟨2, _⟩ => ⟨S16384x64, .i8⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S16384x2048 : Shape := ⟨2, ![16384, 2048]⟩
abbrev S16384x64 : Shape := ⟨2, ![16384, 64]⟩
abbrev S2048x12288 : Shape := ⟨2, ![2048, 12288]⟩
abbrev S64x12288 : Shape := ⟨2, ![64, 12288]⟩
abbrev S16384x6144 : Shape := ⟨2, ![16384, 6144]⟩
abbrev S24x16384x8 : Shape := ⟨3, ![24, 16384, 8]⟩
abbrev S256x2048 : Shape := ⟨2, ![256, 2048]⟩
abbrev S256x64 : Shape := ⟨2, ![256, 64]⟩
abbrev S2048x256 : Shape := ⟨2, ![2048, 256]⟩
abbrev S64x256 : Shape := ⟨2, ![64, 256]⟩
abbrev S256x256 : Shape := ⟨2, ![256, 256]⟩
abbrev S1x256x8 : Shape := ⟨3, ![1, 256, 8]⟩
abbrev S8x8x8x32x256 : Shape := ⟨5, ![8, 8, 8, 32, 256]⟩
abbrev S64x256x128 : Shape := ⟨3, ![64, 256, 128]⟩
abbrev S2x256x256 : Shape := ⟨3, ![2, 256, 256]⟩
abbrev S8x32x256 : Shape := ⟨3, ![8, 32, 256]⟩
abbrev S8x1x1x32x256 : Shape := ⟨5, ![8, 1, 1, 32, 256]⟩
abbrev S256x1 : Shape := ⟨2, ![256, 1]⟩
abbrev S256x128 : Shape := ⟨2, ![256, 128]⟩
abbrev S1x256x128 : Shape := ⟨3, ![1, 256, 128]⟩
abbrev S32x128 : Shape := ⟨2, ![32, 128]⟩
abbrev S1x1x8x32x256 : Shape := ⟨5, ![1, 1, 8, 32, 256]⟩
abbrev S1x32x128 : Shape := ⟨3, ![1, 32, 128]⟩
abbrev S1x128 : Shape := ⟨2, ![1, 128]⟩
abbrev S128x128 : Shape := ⟨2, ![128, 128]⟩
abbrev S256x4 : Shape := ⟨2, ![256, 4]⟩
abbrev S1x256x4 : Shape := ⟨3, ![1, 256, 4]⟩

abbrev nBuf : Space → Nat
  | .hbm => 8
  | .vmem => 21
  | .smem => 0
  | _ => 0

abbrev bufTy : (tb : Table) → Fin (tcTables nBuf tb) → BufTy
  | .hbm, ⟨0, _⟩ => ⟨S16384x2048, .fp8e4m3⟩
  | .hbm, ⟨1, _⟩ => ⟨S16384x64, .i8⟩
  | .hbm, ⟨2, _⟩ => ⟨S2048x12288, .fp8e4m3⟩
  | .hbm, ⟨3, _⟩ => ⟨S64x12288, .i8⟩
  | .hbm, ⟨4, _⟩ => ⟨S64x12288, .i32⟩
  | .hbm, ⟨5, _⟩ => ⟨S16384x6144, .fp8e4m3⟩
  | .hbm, ⟨6, _⟩ => ⟨S24x16384x8, .i32⟩
  | .hbm, ⟨7, _⟩ => ⟨S16384x6144, .bf16⟩
  | .local _ .vmem, ⟨0, _⟩ => ⟨S256x2048, .fp8e4m3⟩
  | .local _ .vmem, ⟨1, _⟩ => ⟨S256x2048, .fp8e4m3⟩
  | .local _ .vmem, ⟨2, _⟩ => ⟨S256x64, .i8⟩
  | .local _ .vmem, ⟨3, _⟩ => ⟨S256x64, .i8⟩
  | .local _ .vmem, ⟨4, _⟩ => ⟨S2048x256, .fp8e4m3⟩
  | .local _ .vmem, ⟨5, _⟩ => ⟨S2048x256, .fp8e4m3⟩
  | .local _ .vmem, ⟨6, _⟩ => ⟨S2048x256, .fp8e4m3⟩
  | .local _ .vmem, ⟨7, _⟩ => ⟨S2048x256, .fp8e4m3⟩
  | .local _ .vmem, ⟨8, _⟩ => ⟨S64x256, .i32⟩
  | .local _ .vmem, ⟨9, _⟩ => ⟨S64x256, .i32⟩
  | .local _ .vmem, ⟨10, _⟩ => ⟨S64x256, .i32⟩
  | .local _ .vmem, ⟨11, _⟩ => ⟨S64x256, .i32⟩
  | .local _ .vmem, ⟨12, _⟩ => ⟨S256x256, .fp8e4m3⟩
  | .local _ .vmem, ⟨13, _⟩ => ⟨S256x256, .fp8e4m3⟩
  | .local _ .vmem, ⟨14, _⟩ => ⟨S1x256x8, .i32⟩
  | .local _ .vmem, ⟨15, _⟩ => ⟨S1x256x8, .i32⟩
  | .local _ .vmem, ⟨16, _⟩ => ⟨S256x256, .bf16⟩
  | .local _ .vmem, ⟨17, _⟩ => ⟨S256x256, .bf16⟩
  | .local _ .vmem, ⟨18, _⟩ => ⟨S8x8x8x32x256, .fp8e4m3⟩
  | .local _ .vmem, ⟨19, _⟩ => ⟨S64x256x128, .f32⟩
  | .local _ .vmem, ⟨20, _⟩ => ⟨S2x256x256, .f32⟩
  | _, _ => ⟨S16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![64, 24], ![false, false]⟩

@[reducible] def k0_t1_loop : Scf.Loop 32 :=
  let c0_i32_5 : BitVec 32 := 0#32
  let c8_i32 : BitVec 32 := 8#32
  let v13 : BitVec 32 := Scalar.addi c0_i32_5 c8_i32
  let c1_i32 : BitVec 32 := 1#32
  ⟨c0_i32_5, v13, c1_i32⟩
def k0_off1 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v354 : Index := Scalar.indexCast arg14
  let c0_140 : Index := 0#32
  let c0_141 : Index := 0#32
  let c0_142 : Index := 0#32
  let c0_143 : Index := 0#32
  ![v354.toNat, 0, 0, 0, 0]
def k0_off2 (k0_t1 : Fin k0_t1_loop.trips) : Fin 3 → Nat :=
  let c0_148 : Index := 0#32
  let c0_i32_5 : BitVec 32 := 0#32
  let c1_i32 : BitVec 32 := 1#32
  let arg14 : BitVec 32 := Scf.iv c0_i32_5 c1_i32 k0_t1
  let c32_i32_147 : BitVec 32 := 32#32
  let v360 : BitVec 32 := Scalar.muli arg14 c32_i32_147
  let v361 : Index := Scalar.indexCast v360
  let c0_149 : Index := 0#32
  ![0, v361.toNat, 0]
def k0_off3 (k0_t1 : Fin k0_t1_loop.trips) : Fin 3 → Nat :=
  let c1_151 : Index := 1#32
  let c0_i32_5 : BitVec 32 := 0#32
  let c1_i32 : BitVec 32 := 1#32
  let arg14 : BitVec 32 := Scf.iv c0_i32_5 c1_i32 k0_t1
  let c32_i32_150 : BitVec 32 := 32#32
  let v376 : BitVec 32 := Scalar.muli arg14 c32_i32_150
  let v377 : Index := Scalar.indexCast v376
  let c0_152 : Index := 0#32
  ![1, v377.toNat, 0]
def k0_off4 (k0_t1 : Fin k0_t1_loop.trips) : Fin 3 → Nat :=
  let c2 : Index := 2#32
  let c0_i32_5 : BitVec 32 := 0#32
  let c1_i32 : BitVec 32 := 1#32
  let arg14 : BitVec 32 := Scf.iv c0_i32_5 c1_i32 k0_t1
  let c32_i32_153 : BitVec 32 := 32#32
  let v392 : BitVec 32 := Scalar.muli arg14 c32_i32_153
  let v393 : Index := Scalar.indexCast v392
  let c0_154 : Index := 0#32
  ![2, v393.toNat, 0]
def k0_off5 (k0_t1 : Fin k0_t1_loop.trips) : Fin 3 → Nat :=
  let c3 : Index := 3#32
  let c0_i32_5 : BitVec 32 := 0#32
  let c1_i32 : BitVec 32 := 1#32
  let arg14 : BitVec 32 := Scf.iv c0_i32_5 c1_i32 k0_t1
  let c32_i32_155 : BitVec 32 := 32#32
  let v408 : BitVec 32 := Scalar.muli arg14 c32_i32_155
  let v409 : Index := Scalar.indexCast v408
  let c0_156 : Index := 0#32
  ![3, v409.toNat, 0]
def k0_off6 (k0_t1 : Fin k0_t1_loop.trips) : Fin 3 → Nat :=
  let c4_158 : Index := 4#32
  let c0_i32_5 : BitVec 32 := 0#32
  let c1_i32 : BitVec 32 := 1#32
  let arg14 : BitVec 32 := Scf.iv c0_i32_5 c1_i32 k0_t1
  let c32_i32_157 : BitVec 32 := 32#32
  let v424 : BitVec 32 := Scalar.muli arg14 c32_i32_157
  let v425 : Index := Scalar.indexCast v424
  let c0_159 : Index := 0#32
  ![4, v425.toNat, 0]
def k0_off7 (k0_t1 : Fin k0_t1_loop.trips) : Fin 3 → Nat :=
  let c5 : Index := 5#32
  let c0_i32_5 : BitVec 32 := 0#32
  let c1_i32 : BitVec 32 := 1#32
  let arg14 : BitVec 32 := Scf.iv c0_i32_5 c1_i32 k0_t1
  let c32_i32_160 : BitVec 32 := 32#32
  let v440 : BitVec 32 := Scalar.muli arg14 c32_i32_160
  let v441 : Index := Scalar.indexCast v440
  let c0_161 : Index := 0#32
  ![5, v441.toNat, 0]
def k0_off8 (k0_t1 : Fin k0_t1_loop.trips) : Fin 3 → Nat :=
  let c6 : Index := 6#32
  let c0_i32_5 : BitVec 32 := 0#32
  let c1_i32 : BitVec 32 := 1#32
  let arg14 : BitVec 32 := Scf.iv c0_i32_5 c1_i32 k0_t1
  let c32_i32_162 : BitVec 32 := 32#32
  let v456 : BitVec 32 := Scalar.muli arg14 c32_i32_162
  let v457 : Index := Scalar.indexCast v456
  let c0_163 : Index := 0#32
  ![6, v457.toNat, 0]
def k0_off9 (k0_t1 : Fin k0_t1_loop.trips) : Fin 3 → Nat :=
  let c7 : Index := 7#32
  let c0_i32_5 : BitVec 32 := 0#32
  let c1_i32 : BitVec 32 := 1#32
  let arg14 : BitVec 32 := Scf.iv c0_i32_5 c1_i32 k0_t1
  let c32_i32_164 : BitVec 32 := 32#32
  let v472 : BitVec 32 := Scalar.muli arg14 c32_i32_164
  let v473 : Index := Scalar.indexCast v472
  let c0_165 : Index := 0#32
  ![7, v473.toNat, 0]
def k0_off10 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v618 : Index := Scalar.indexCast arg14
  let c1_193 : Index := 1#32
  let c0_194 : Index := 0#32
  let c0_195 : Index := 0#32
  let c0_196 : Index := 0#32
  ![v618.toNat, 1, 0, 0, 0]
def k0_off11 (k0_t1 : Fin k0_t1_loop.trips) : Fin 3 → Nat :=
  let c8 : Index := 8#32
  let c0_i32_5 : BitVec 32 := 0#32
  let c1_i32 : BitVec 32 := 1#32
  let arg14 : BitVec 32 := Scf.iv c0_i32_5 c1_i32 k0_t1
  let c32_i32_199 : BitVec 32 := 32#32
  let v624 : BitVec 32 := Scalar.muli arg14 c32_i32_199
  let v625 : Index := Scalar.indexCast v624
  let c0_200 : Index := 0#32
  ![8, v625.toNat, 0]
def k0_off12 (k0_t1 : Fin k0_t1_loop.trips) : Fin 3 → Nat :=
  let c9 : Index := 9#32
  let c0_i32_5 : BitVec 32 := 0#32
  let c1_i32 : BitVec 32 := 1#32
  let arg14 : BitVec 32 := Scf.iv c0_i32_5 c1_i32 k0_t1
  let c32_i32_201 : BitVec 32 := 32#32
  let v640 : BitVec 32 := Scalar.muli arg14 c32_i32_201
  let v641 : Index := Scalar.indexCast v640
  let c0_202 : Index := 0#32
  ![9, v641.toNat, 0]
def k0_off13 (k0_t1 : Fin k0_t1_loop.trips) : Fin 3 → Nat :=
  let c10 : Index := 10#32
  let c0_i32_5 : BitVec 32 := 0#32
  let c1_i32 : BitVec 32 := 1#32
  let arg14 : BitVec 32 := Scf.iv c0_i32_5 c1_i32 k0_t1
  let c32_i32_203 : BitVec 32 := 32#32
  let v656 : BitVec 32 := Scalar.muli arg14 c32_i32_203
  let v657 : Index := Scalar.indexCast v656
  let c0_204 : Index := 0#32
  ![10, v657.toNat, 0]
def k0_off14 (k0_t1 : Fin k0_t1_loop.trips) : Fin 3 → Nat :=
  let c11 : Index := 11#32
  let c0_i32_5 : BitVec 32 := 0#32
  let c1_i32 : BitVec 32 := 1#32
  let arg14 : BitVec 32 := Scf.iv c0_i32_5 c1_i32 k0_t1
  let c32_i32_205 : BitVec 32 := 32#32
  let v672 : BitVec 32 := Scalar.muli arg14 c32_i32_205
  let v673 : Index := Scalar.indexCast v672
  let c0_206 : Index := 0#32
  ![11, v673.toNat, 0]
def k0_off15 (k0_t1 : Fin k0_t1_loop.trips) : Fin 3 → Nat :=
  let c12 : Index := 12#32
  let c0_i32_5 : BitVec 32 := 0#32
  let c1_i32 : BitVec 32 := 1#32
  let arg14 : BitVec 32 := Scf.iv c0_i32_5 c1_i32 k0_t1
  let c32_i32_207 : BitVec 32 := 32#32
  let v688 : BitVec 32 := Scalar.muli arg14 c32_i32_207
  let v689 : Index := Scalar.indexCast v688
  let c0_208 : Index := 0#32
  ![12, v689.toNat, 0]
def k0_off16 (k0_t1 : Fin k0_t1_loop.trips) : Fin 3 → Nat :=
  let c13 : Index := 13#32
  let c0_i32_5 : BitVec 32 := 0#32
  let c1_i32 : BitVec 32 := 1#32
  let arg14 : BitVec 32 := Scf.iv c0_i32_5 c1_i32 k0_t1
  let c32_i32_209 : BitVec 32 := 32#32
  let v704 : BitVec 32 := Scalar.muli arg14 c32_i32_209
  let v705 : Index := Scalar.indexCast v704
  let c0_210 : Index := 0#32
  ![13, v705.toNat, 0]
def k0_off17 (k0_t1 : Fin k0_t1_loop.trips) : Fin 3 → Nat :=
  let c14 : Index := 14#32
  let c0_i32_5 : BitVec 32 := 0#32
  let c1_i32 : BitVec 32 := 1#32
  let arg14 : BitVec 32 := Scf.iv c0_i32_5 c1_i32 k0_t1
  let c32_i32_211 : BitVec 32 := 32#32
  let v720 : BitVec 32 := Scalar.muli arg14 c32_i32_211
  let v721 : Index := Scalar.indexCast v720
  let c0_212 : Index := 0#32
  ![14, v721.toNat, 0]
def k0_off18 (k0_t1 : Fin k0_t1_loop.trips) : Fin 3 → Nat :=
  let c15 : Index := 15#32
  let c0_i32_5 : BitVec 32 := 0#32
  let c1_i32 : BitVec 32 := 1#32
  let arg14 : BitVec 32 := Scf.iv c0_i32_5 c1_i32 k0_t1
  let c32_i32_213 : BitVec 32 := 32#32
  let v736 : BitVec 32 := Scalar.muli arg14 c32_i32_213
  let v737 : Index := Scalar.indexCast v736
  let c0_214 : Index := 0#32
  ![15, v737.toNat, 0]
def k0_off19 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v882 : Index := Scalar.indexCast arg14
  let c2_242 : Index := 2#32
  let c0_243 : Index := 0#32
  let c0_244 : Index := 0#32
  let c0_245 : Index := 0#32
  ![v882.toNat, 2, 0, 0, 0]
def k0_off20 (k0_t1 : Fin k0_t1_loop.trips) : Fin 3 → Nat :=
  let c16 : Index := 16#32
  let c0_i32_5 : BitVec 32 := 0#32
  let c1_i32 : BitVec 32 := 1#32
  let arg14 : BitVec 32 := Scf.iv c0_i32_5 c1_i32 k0_t1
  let c32_i32_248 : BitVec 32 := 32#32
  let v888 : BitVec 32 := Scalar.muli arg14 c32_i32_248
  let v889 : Index := Scalar.indexCast v888
  let c0_249 : Index := 0#32
  ![16, v889.toNat, 0]
def k0_off21 (k0_t1 : Fin k0_t1_loop.trips) : Fin 3 → Nat :=
  let c17 : Index := 17#32
  let c0_i32_5 : BitVec 32 := 0#32
  let c1_i32 : BitVec 32 := 1#32
  let arg14 : BitVec 32 := Scf.iv c0_i32_5 c1_i32 k0_t1
  let c32_i32_250 : BitVec 32 := 32#32
  let v904 : BitVec 32 := Scalar.muli arg14 c32_i32_250
  let v905 : Index := Scalar.indexCast v904
  let c0_251 : Index := 0#32
  ![17, v905.toNat, 0]
def k0_off22 (k0_t1 : Fin k0_t1_loop.trips) : Fin 3 → Nat :=
  let c18 : Index := 18#32
  let c0_i32_5 : BitVec 32 := 0#32
  let c1_i32 : BitVec 32 := 1#32
  let arg14 : BitVec 32 := Scf.iv c0_i32_5 c1_i32 k0_t1
  let c32_i32_252 : BitVec 32 := 32#32
  let v920 : BitVec 32 := Scalar.muli arg14 c32_i32_252
  let v921 : Index := Scalar.indexCast v920
  let c0_253 : Index := 0#32
  ![18, v921.toNat, 0]
def k0_off23 (k0_t1 : Fin k0_t1_loop.trips) : Fin 3 → Nat :=
  let c19 : Index := 19#32
  let c0_i32_5 : BitVec 32 := 0#32
  let c1_i32 : BitVec 32 := 1#32
  let arg14 : BitVec 32 := Scf.iv c0_i32_5 c1_i32 k0_t1
  let c32_i32_254 : BitVec 32 := 32#32
  let v936 : BitVec 32 := Scalar.muli arg14 c32_i32_254
  let v937 : Index := Scalar.indexCast v936
  let c0_255 : Index := 0#32
  ![19, v937.toNat, 0]
def k0_off24 (k0_t1 : Fin k0_t1_loop.trips) : Fin 3 → Nat :=
  let c20 : Index := 20#32
  let c0_i32_5 : BitVec 32 := 0#32
  let c1_i32 : BitVec 32 := 1#32
  let arg14 : BitVec 32 := Scf.iv c0_i32_5 c1_i32 k0_t1
  let c32_i32_256 : BitVec 32 := 32#32
  let v952 : BitVec 32 := Scalar.muli arg14 c32_i32_256
  let v953 : Index := Scalar.indexCast v952
  let c0_257 : Index := 0#32
  ![20, v953.toNat, 0]
def k0_off25 (k0_t1 : Fin k0_t1_loop.trips) : Fin 3 → Nat :=
  let c21 : Index := 21#32
  let c0_i32_5 : BitVec 32 := 0#32
  let c1_i32 : BitVec 32 := 1#32
  let arg14 : BitVec 32 := Scf.iv c0_i32_5 c1_i32 k0_t1
  let c32_i32_258 : BitVec 32 := 32#32
  let v968 : BitVec 32 := Scalar.muli arg14 c32_i32_258
  let v969 : Index := Scalar.indexCast v968
  let c0_259 : Index := 0#32
  ![21, v969.toNat, 0]
def k0_off26 (k0_t1 : Fin k0_t1_loop.trips) : Fin 3 → Nat :=
  let c22 : Index := 22#32
  let c0_i32_5 : BitVec 32 := 0#32
  let c1_i32 : BitVec 32 := 1#32
  let arg14 : BitVec 32 := Scf.iv c0_i32_5 c1_i32 k0_t1
  let c32_i32_260 : BitVec 32 := 32#32
  let v984 : BitVec 32 := Scalar.muli arg14 c32_i32_260
  let v985 : Index := Scalar.indexCast v984
  let c0_261 : Index := 0#32
  ![22, v985.toNat, 0]
def k0_off27 (k0_t1 : Fin k0_t1_loop.trips) : Fin 3 → Nat :=
  let c23 : Index := 23#32
  let c0_i32_5 : BitVec 32 := 0#32
  let c1_i32 : BitVec 32 := 1#32
  let arg14 : BitVec 32 := Scf.iv c0_i32_5 c1_i32 k0_t1
  let c32_i32_262 : BitVec 32 := 32#32
  let v1000 : BitVec 32 := Scalar.muli arg14 c32_i32_262
  let v1001 : Index := Scalar.indexCast v1000
  let c0_263 : Index := 0#32
  ![23, v1001.toNat, 0]
def k0_off28 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v1146 : Index := Scalar.indexCast arg14
  let c3_291 : Index := 3#32
  let c0_292 : Index := 0#32
  let c0_293 : Index := 0#32
  let c0_294 : Index := 0#32
  ![v1146.toNat, 3, 0, 0, 0]
def k0_off29 (k0_t1 : Fin k0_t1_loop.trips) : Fin 3 → Nat :=
  let c24 : Index := 24#32
  let c0_i32_5 : BitVec 32 := 0#32
  let c1_i32 : BitVec 32 := 1#32
  let arg14 : BitVec 32 := Scf.iv c0_i32_5 c1_i32 k0_t1
  let c32_i32_297 : BitVec 32 := 32#32
  let v1152 : BitVec 32 := Scalar.muli arg14 c32_i32_297
  let v1153 : Index := Scalar.indexCast v1152
  let c0_298 : Index := 0#32
  ![24, v1153.toNat, 0]
def k0_off30 (k0_t1 : Fin k0_t1_loop.trips) : Fin 3 → Nat :=
  let c25 : Index := 25#32
  let c0_i32_5 : BitVec 32 := 0#32
  let c1_i32 : BitVec 32 := 1#32
  let arg14 : BitVec 32 := Scf.iv c0_i32_5 c1_i32 k0_t1
  let c32_i32_299 : BitVec 32 := 32#32
  let v1168 : BitVec 32 := Scalar.muli arg14 c32_i32_299
  let v1169 : Index := Scalar.indexCast v1168
  let c0_300 : Index := 0#32
  ![25, v1169.toNat, 0]
def k0_off31 (k0_t1 : Fin k0_t1_loop.trips) : Fin 3 → Nat :=
  let c26 : Index := 26#32
  let c0_i32_5 : BitVec 32 := 0#32
  let c1_i32 : BitVec 32 := 1#32
  let arg14 : BitVec 32 := Scf.iv c0_i32_5 c1_i32 k0_t1
  let c32_i32_301 : BitVec 32 := 32#32
  let v1184 : BitVec 32 := Scalar.muli arg14 c32_i32_301
  let v1185 : Index := Scalar.indexCast v1184
  let c0_302 : Index := 0#32
  ![26, v1185.toNat, 0]
def k0_off32 (k0_t1 : Fin k0_t1_loop.trips) : Fin 3 → Nat :=
  let c27 : Index := 27#32
  let c0_i32_5 : BitVec 32 := 0#32
  let c1_i32 : BitVec 32 := 1#32
  let arg14 : BitVec 32 := Scf.iv c0_i32_5 c1_i32 k0_t1
  let c32_i32_303 : BitVec 32 := 32#32
  let v1200 : BitVec 32 := Scalar.muli arg14 c32_i32_303
  let v1201 : Index := Scalar.indexCast v1200
  let c0_304 : Index := 0#32
  ![27, v1201.toNat, 0]
def k0_off33 (k0_t1 : Fin k0_t1_loop.trips) : Fin 3 → Nat :=
  let c28 : Index := 28#32
  let c0_i32_5 : BitVec 32 := 0#32
  let c1_i32 : BitVec 32 := 1#32
  let arg14 : BitVec 32 := Scf.iv c0_i32_5 c1_i32 k0_t1
  let c32_i32_305 : BitVec 32 := 32#32
  let v1216 : BitVec 32 := Scalar.muli arg14 c32_i32_305
  let v1217 : Index := Scalar.indexCast v1216
  let c0_306 : Index := 0#32
  ![28, v1217.toNat, 0]
def k0_off34 (k0_t1 : Fin k0_t1_loop.trips) : Fin 3 → Nat :=
  let c29 : Index := 29#32
  let c0_i32_5 : BitVec 32 := 0#32
  let c1_i32 : BitVec 32 := 1#32
  let arg14 : BitVec 32 := Scf.iv c0_i32_5 c1_i32 k0_t1
  let c32_i32_307 : BitVec 32 := 32#32
  let v1232 : BitVec 32 := Scalar.muli arg14 c32_i32_307
  let v1233 : Index := Scalar.indexCast v1232
  let c0_308 : Index := 0#32
  ![29, v1233.toNat, 0]
def k0_off35 (k0_t1 : Fin k0_t1_loop.trips) : Fin 3 → Nat :=
  let c30 : Index := 30#32
  let c0_i32_5 : BitVec 32 := 0#32
  let c1_i32 : BitVec 32 := 1#32
  let arg14 : BitVec 32 := Scf.iv c0_i32_5 c1_i32 k0_t1
  let c32_i32_309 : BitVec 32 := 32#32
  let v1248 : BitVec 32 := Scalar.muli arg14 c32_i32_309
  let v1249 : Index := Scalar.indexCast v1248
  let c0_310 : Index := 0#32
  ![30, v1249.toNat, 0]
def k0_off36 (k0_t1 : Fin k0_t1_loop.trips) : Fin 3 → Nat :=
  let c31 : Index := 31#32
  let c0_i32_5 : BitVec 32 := 0#32
  let c1_i32 : BitVec 32 := 1#32
  let arg14 : BitVec 32 := Scf.iv c0_i32_5 c1_i32 k0_t1
  let c32_i32_311 : BitVec 32 := 32#32
  let v1264 : BitVec 32 := Scalar.muli arg14 c32_i32_311
  let v1265 : Index := Scalar.indexCast v1264
  let c0_312 : Index := 0#32
  ![31, v1265.toNat, 0]
def k0_off37 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v1410 : Index := Scalar.indexCast arg14
  let c4_340 : Index := 4#32
  let c0_341 : Index := 0#32
  let c0_342 : Index := 0#32
  let c0_343 : Index := 0#32
  ![v1410.toNat, 4, 0, 0, 0]
def k0_off38 (k0_t1 : Fin k0_t1_loop.trips) : Fin 3 → Nat :=
  let c32 : Index := 32#32
  let c0_i32_5 : BitVec 32 := 0#32
  let c1_i32 : BitVec 32 := 1#32
  let arg14 : BitVec 32 := Scf.iv c0_i32_5 c1_i32 k0_t1
  let c32_i32_346 : BitVec 32 := 32#32
  let v1416 : BitVec 32 := Scalar.muli arg14 c32_i32_346
  let v1417 : Index := Scalar.indexCast v1416
  let c0_347 : Index := 0#32
  ![32, v1417.toNat, 0]
def k0_off39 (k0_t1 : Fin k0_t1_loop.trips) : Fin 3 → Nat :=
  let c33 : Index := 33#32
  let c0_i32_5 : BitVec 32 := 0#32
  let c1_i32 : BitVec 32 := 1#32
  let arg14 : BitVec 32 := Scf.iv c0_i32_5 c1_i32 k0_t1
  let c32_i32_348 : BitVec 32 := 32#32
  let v1432 : BitVec 32 := Scalar.muli arg14 c32_i32_348
  let v1433 : Index := Scalar.indexCast v1432
  let c0_349 : Index := 0#32
  ![33, v1433.toNat, 0]
def k0_off40 (k0_t1 : Fin k0_t1_loop.trips) : Fin 3 → Nat :=
  let c34 : Index := 34#32
  let c0_i32_5 : BitVec 32 := 0#32
  let c1_i32 : BitVec 32 := 1#32
  let arg14 : BitVec 32 := Scf.iv c0_i32_5 c1_i32 k0_t1
  let c32_i32_350 : BitVec 32 := 32#32
  let v1448 : BitVec 32 := Scalar.muli arg14 c32_i32_350
  let v1449 : Index := Scalar.indexCast v1448
  let c0_351 : Index := 0#32
  ![34, v1449.toNat, 0]
def k0_off41 (k0_t1 : Fin k0_t1_loop.trips) : Fin 3 → Nat :=
  let c35 : Index := 35#32
  let c0_i32_5 : BitVec 32 := 0#32
  let c1_i32 : BitVec 32 := 1#32
  let arg14 : BitVec 32 := Scf.iv c0_i32_5 c1_i32 k0_t1
  let c32_i32_352 : BitVec 32 := 32#32
  let v1464 : BitVec 32 := Scalar.muli arg14 c32_i32_352
  let v1465 : Index := Scalar.indexCast v1464
  let c0_353 : Index := 0#32
  ![35, v1465.toNat, 0]
def k0_off42 (k0_t1 : Fin k0_t1_loop.trips) : Fin 3 → Nat :=
  let c36 : Index := 36#32
  let c0_i32_5 : BitVec 32 := 0#32
  let c1_i32 : BitVec 32 := 1#32
  let arg14 : BitVec 32 := Scf.iv c0_i32_5 c1_i32 k0_t1
  let c32_i32_354 : BitVec 32 := 32#32
  let v1480 : BitVec 32 := Scalar.muli arg14 c32_i32_354
  let v1481 : Index := Scalar.indexCast v1480
  let c0_355 : Index := 0#32
  ![36, v1481.toNat, 0]
def k0_off43 (k0_t1 : Fin k0_t1_loop.trips) : Fin 3 → Nat :=
  let c37 : Index := 37#32
  let c0_i32_5 : BitVec 32 := 0#32
  let c1_i32 : BitVec 32 := 1#32
  let arg14 : BitVec 32 := Scf.iv c0_i32_5 c1_i32 k0_t1
  let c32_i32_356 : BitVec 32 := 32#32
  let v1496 : BitVec 32 := Scalar.muli arg14 c32_i32_356
  let v1497 : Index := Scalar.indexCast v1496
  let c0_357 : Index := 0#32
  ![37, v1497.toNat, 0]
def k0_off44 (k0_t1 : Fin k0_t1_loop.trips) : Fin 3 → Nat :=
  let c38 : Index := 38#32
  let c0_i32_5 : BitVec 32 := 0#32
  let c1_i32 : BitVec 32 := 1#32
  let arg14 : BitVec 32 := Scf.iv c0_i32_5 c1_i32 k0_t1
  let c32_i32_358 : BitVec 32 := 32#32
  let v1512 : BitVec 32 := Scalar.muli arg14 c32_i32_358
  let v1513 : Index := Scalar.indexCast v1512
  let c0_359 : Index := 0#32
  ![38, v1513.toNat, 0]
def k0_off45 (k0_t1 : Fin k0_t1_loop.trips) : Fin 3 → Nat :=
  let c39 : Index := 39#32
  let c0_i32_5 : BitVec 32 := 0#32
  let c1_i32 : BitVec 32 := 1#32
  let arg14 : BitVec 32 := Scf.iv c0_i32_5 c1_i32 k0_t1
  let c32_i32_360 : BitVec 32 := 32#32
  let v1528 : BitVec 32 := Scalar.muli arg14 c32_i32_360
  let v1529 : Index := Scalar.indexCast v1528
  let c0_361 : Index := 0#32
  ![39, v1529.toNat, 0]
def k0_off46 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v1674 : Index := Scalar.indexCast arg14
  let c5_389 : Index := 5#32
  let c0_390 : Index := 0#32
  let c0_391 : Index := 0#32
  let c0_392 : Index := 0#32
  ![v1674.toNat, 5, 0, 0, 0]
def k0_off47 (k0_t1 : Fin k0_t1_loop.trips) : Fin 3 → Nat :=
  let c40 : Index := 40#32
  let c0_i32_5 : BitVec 32 := 0#32
  let c1_i32 : BitVec 32 := 1#32
  let arg14 : BitVec 32 := Scf.iv c0_i32_5 c1_i32 k0_t1
  let c32_i32_395 : BitVec 32 := 32#32
  let v1680 : BitVec 32 := Scalar.muli arg14 c32_i32_395
  let v1681 : Index := Scalar.indexCast v1680
  let c0_396 : Index := 0#32
  ![40, v1681.toNat, 0]
def k0_off48 (k0_t1 : Fin k0_t1_loop.trips) : Fin 3 → Nat :=
  let c41 : Index := 41#32
  let c0_i32_5 : BitVec 32 := 0#32
  let c1_i32 : BitVec 32 := 1#32
  let arg14 : BitVec 32 := Scf.iv c0_i32_5 c1_i32 k0_t1
  let c32_i32_397 : BitVec 32 := 32#32
  let v1696 : BitVec 32 := Scalar.muli arg14 c32_i32_397
  let v1697 : Index := Scalar.indexCast v1696
  let c0_398 : Index := 0#32
  ![41, v1697.toNat, 0]
def k0_off49 (k0_t1 : Fin k0_t1_loop.trips) : Fin 3 → Nat :=
  let c42 : Index := 42#32
  let c0_i32_5 : BitVec 32 := 0#32
  let c1_i32 : BitVec 32 := 1#32
  let arg14 : BitVec 32 := Scf.iv c0_i32_5 c1_i32 k0_t1
  let c32_i32_399 : BitVec 32 := 32#32
  let v1712 : BitVec 32 := Scalar.muli arg14 c32_i32_399
  let v1713 : Index := Scalar.indexCast v1712
  let c0_400 : Index := 0#32
  ![42, v1713.toNat, 0]
def k0_off50 (k0_t1 : Fin k0_t1_loop.trips) : Fin 3 → Nat :=
  let c43 : Index := 43#32
  let c0_i32_5 : BitVec 32 := 0#32
  let c1_i32 : BitVec 32 := 1#32
  let arg14 : BitVec 32 := Scf.iv c0_i32_5 c1_i32 k0_t1
  let c32_i32_401 : BitVec 32 := 32#32
  let v1728 : BitVec 32 := Scalar.muli arg14 c32_i32_401
  let v1729 : Index := Scalar.indexCast v1728
  let c0_402 : Index := 0#32
  ![43, v1729.toNat, 0]
def k0_off51 (k0_t1 : Fin k0_t1_loop.trips) : Fin 3 → Nat :=
  let c44 : Index := 44#32
  let c0_i32_5 : BitVec 32 := 0#32
  let c1_i32 : BitVec 32 := 1#32
  let arg14 : BitVec 32 := Scf.iv c0_i32_5 c1_i32 k0_t1
  let c32_i32_403 : BitVec 32 := 32#32
  let v1744 : BitVec 32 := Scalar.muli arg14 c32_i32_403
  let v1745 : Index := Scalar.indexCast v1744
  let c0_404 : Index := 0#32
  ![44, v1745.toNat, 0]
def k0_off52 (k0_t1 : Fin k0_t1_loop.trips) : Fin 3 → Nat :=
  let c45 : Index := 45#32
  let c0_i32_5 : BitVec 32 := 0#32
  let c1_i32 : BitVec 32 := 1#32
  let arg14 : BitVec 32 := Scf.iv c0_i32_5 c1_i32 k0_t1
  let c32_i32_405 : BitVec 32 := 32#32
  let v1760 : BitVec 32 := Scalar.muli arg14 c32_i32_405
  let v1761 : Index := Scalar.indexCast v1760
  let c0_406 : Index := 0#32
  ![45, v1761.toNat, 0]
def k0_off53 (k0_t1 : Fin k0_t1_loop.trips) : Fin 3 → Nat :=
  let c46 : Index := 46#32
  let c0_i32_5 : BitVec 32 := 0#32
  let c1_i32 : BitVec 32 := 1#32
  let arg14 : BitVec 32 := Scf.iv c0_i32_5 c1_i32 k0_t1
  let c32_i32_407 : BitVec 32 := 32#32
  let v1776 : BitVec 32 := Scalar.muli arg14 c32_i32_407
  let v1777 : Index := Scalar.indexCast v1776
  let c0_408 : Index := 0#32
  ![46, v1777.toNat, 0]
def k0_off54 (k0_t1 : Fin k0_t1_loop.trips) : Fin 3 → Nat :=
  let c47 : Index := 47#32
  let c0_i32_5 : BitVec 32 := 0#32
  let c1_i32 : BitVec 32 := 1#32
  let arg14 : BitVec 32 := Scf.iv c0_i32_5 c1_i32 k0_t1
  let c32_i32_409 : BitVec 32 := 32#32
  let v1792 : BitVec 32 := Scalar.muli arg14 c32_i32_409
  let v1793 : Index := Scalar.indexCast v1792
  let c0_410 : Index := 0#32
  ![47, v1793.toNat, 0]
def k0_off55 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v1938 : Index := Scalar.indexCast arg14
  let c6_438 : Index := 6#32
  let c0_439 : Index := 0#32
  let c0_440 : Index := 0#32
  let c0_441 : Index := 0#32
  ![v1938.toNat, 6, 0, 0, 0]
def k0_off56 (k0_t1 : Fin k0_t1_loop.trips) : Fin 3 → Nat :=
  let c48 : Index := 48#32
  let c0_i32_5 : BitVec 32 := 0#32
  let c1_i32 : BitVec 32 := 1#32
  let arg14 : BitVec 32 := Scf.iv c0_i32_5 c1_i32 k0_t1
  let c32_i32_444 : BitVec 32 := 32#32
  let v1944 : BitVec 32 := Scalar.muli arg14 c32_i32_444
  let v1945 : Index := Scalar.indexCast v1944
  let c0_445 : Index := 0#32
  ![48, v1945.toNat, 0]
def k0_off57 (k0_t1 : Fin k0_t1_loop.trips) : Fin 3 → Nat :=
  let c49 : Index := 49#32
  let c0_i32_5 : BitVec 32 := 0#32
  let c1_i32 : BitVec 32 := 1#32
  let arg14 : BitVec 32 := Scf.iv c0_i32_5 c1_i32 k0_t1
  let c32_i32_446 : BitVec 32 := 32#32
  let v1960 : BitVec 32 := Scalar.muli arg14 c32_i32_446
  let v1961 : Index := Scalar.indexCast v1960
  let c0_447 : Index := 0#32
  ![49, v1961.toNat, 0]
def k0_off58 (k0_t1 : Fin k0_t1_loop.trips) : Fin 3 → Nat :=
  let c50 : Index := 50#32
  let c0_i32_5 : BitVec 32 := 0#32
  let c1_i32 : BitVec 32 := 1#32
  let arg14 : BitVec 32 := Scf.iv c0_i32_5 c1_i32 k0_t1
  let c32_i32_448 : BitVec 32 := 32#32
  let v1976 : BitVec 32 := Scalar.muli arg14 c32_i32_448
  let v1977 : Index := Scalar.indexCast v1976
  let c0_449 : Index := 0#32
  ![50, v1977.toNat, 0]
def k0_off59 (k0_t1 : Fin k0_t1_loop.trips) : Fin 3 → Nat :=
  let c51 : Index := 51#32
  let c0_i32_5 : BitVec 32 := 0#32
  let c1_i32 : BitVec 32 := 1#32
  let arg14 : BitVec 32 := Scf.iv c0_i32_5 c1_i32 k0_t1
  let c32_i32_450 : BitVec 32 := 32#32
  let v1992 : BitVec 32 := Scalar.muli arg14 c32_i32_450
  let v1993 : Index := Scalar.indexCast v1992
  let c0_451 : Index := 0#32
  ![51, v1993.toNat, 0]
def k0_off60 (k0_t1 : Fin k0_t1_loop.trips) : Fin 3 → Nat :=
  let c52 : Index := 52#32
  let c0_i32_5 : BitVec 32 := 0#32
  let c1_i32 : BitVec 32 := 1#32
  let arg14 : BitVec 32 := Scf.iv c0_i32_5 c1_i32 k0_t1
  let c32_i32_452 : BitVec 32 := 32#32
  let v2008 : BitVec 32 := Scalar.muli arg14 c32_i32_452
  let v2009 : Index := Scalar.indexCast v2008
  let c0_453 : Index := 0#32
  ![52, v2009.toNat, 0]
def k0_off61 (k0_t1 : Fin k0_t1_loop.trips) : Fin 3 → Nat :=
  let c53 : Index := 53#32
  let c0_i32_5 : BitVec 32 := 0#32
  let c1_i32 : BitVec 32 := 1#32
  let arg14 : BitVec 32 := Scf.iv c0_i32_5 c1_i32 k0_t1
  let c32_i32_454 : BitVec 32 := 32#32
  let v2024 : BitVec 32 := Scalar.muli arg14 c32_i32_454
  let v2025 : Index := Scalar.indexCast v2024
  let c0_455 : Index := 0#32
  ![53, v2025.toNat, 0]
def k0_off62 (k0_t1 : Fin k0_t1_loop.trips) : Fin 3 → Nat :=
  let c54 : Index := 54#32
  let c0_i32_5 : BitVec 32 := 0#32
  let c1_i32 : BitVec 32 := 1#32
  let arg14 : BitVec 32 := Scf.iv c0_i32_5 c1_i32 k0_t1
  let c32_i32_456 : BitVec 32 := 32#32
  let v2040 : BitVec 32 := Scalar.muli arg14 c32_i32_456
  let v2041 : Index := Scalar.indexCast v2040
  let c0_457 : Index := 0#32
  ![54, v2041.toNat, 0]
def k0_off63 (k0_t1 : Fin k0_t1_loop.trips) : Fin 3 → Nat :=
  let c55 : Index := 55#32
  let c0_i32_5 : BitVec 32 := 0#32
  let c1_i32 : BitVec 32 := 1#32
  let arg14 : BitVec 32 := Scf.iv c0_i32_5 c1_i32 k0_t1
  let c32_i32_458 : BitVec 32 := 32#32
  let v2056 : BitVec 32 := Scalar.muli arg14 c32_i32_458
  let v2057 : Index := Scalar.indexCast v2056
  let c0_459 : Index := 0#32
  ![55, v2057.toNat, 0]
def k0_off64 (k0_t1 : Fin k0_t1_loop.trips) : Fin 5 → Nat :=
  let c0_i32_5 : BitVec 32 := 0#32
  let c1_i32 : BitVec 32 := 1#32
  let arg14 : BitVec 32 := Scf.iv c0_i32_5 c1_i32 k0_t1
  let v2202 : Index := Scalar.indexCast arg14
  let c7_487 : Index := 7#32
  let c0_488 : Index := 0#32
  let c0_489 : Index := 0#32
  let c0_490 : Index := 0#32
  ![v2202.toNat, 7, 0, 0, 0]
def k0_off65 (k0_t1 : Fin k0_t1_loop.trips) : Fin 3 → Nat :=
  let c56 : Index := 56#32
  let c0_i32_5 : BitVec 32 := 0#32
  let c1_i32 : BitVec 32 := 1#32
  let arg14 : BitVec 32 := Scf.iv c0_i32_5 c1_i32 k0_t1
  let c32_i32_493 : BitVec 32 := 32#32
  let v2208 : BitVec 32 := Scalar.muli arg14 c32_i32_493
  let v2209 : Index := Scalar.indexCast v2208
  let c0_494 : Index := 0#32
  ![56, v2209.toNat, 0]
def k0_off66 (k0_t1 : Fin k0_t1_loop.trips) : Fin 3 → Nat :=
  let c57 : Index := 57#32
  let c0_i32_5 : BitVec 32 := 0#32
  let c1_i32 : BitVec 32 := 1#32
  let arg14 : BitVec 32 := Scf.iv c0_i32_5 c1_i32 k0_t1
  let c32_i32_495 : BitVec 32 := 32#32
  let v2224 : BitVec 32 := Scalar.muli arg14 c32_i32_495
  let v2225 : Index := Scalar.indexCast v2224
  let c0_496 : Index := 0#32
  ![57, v2225.toNat, 0]
def k0_off67 (k0_t1 : Fin k0_t1_loop.trips) : Fin 3 → Nat :=
  let c58 : Index := 58#32
  let c0_i32_5 : BitVec 32 := 0#32
  let c1_i32 : BitVec 32 := 1#32
  let arg14 : BitVec 32 := Scf.iv c0_i32_5 c1_i32 k0_t1
  let c32_i32_497 : BitVec 32 := 32#32
  let v2240 : BitVec 32 := Scalar.muli arg14 c32_i32_497
  let v2241 : Index := Scalar.indexCast v2240
  let c0_498 : Index := 0#32
  ![58, v2241.toNat, 0]
def k0_off68 (k0_t1 : Fin k0_t1_loop.trips) : Fin 3 → Nat :=
  let c59 : Index := 59#32
  let c0_i32_5 : BitVec 32 := 0#32
  let c1_i32 : BitVec 32 := 1#32
  let arg14 : BitVec 32 := Scf.iv c0_i32_5 c1_i32 k0_t1
  let c32_i32_499 : BitVec 32 := 32#32
  let v2256 : BitVec 32 := Scalar.muli arg14 c32_i32_499
  let v2257 : Index := Scalar.indexCast v2256
  let c0_500 : Index := 0#32
  ![59, v2257.toNat, 0]
def k0_off69 (k0_t1 : Fin k0_t1_loop.trips) : Fin 3 → Nat :=
  let c60 : Index := 60#32
  let c0_i32_5 : BitVec 32 := 0#32
  let c1_i32 : BitVec 32 := 1#32
  let arg14 : BitVec 32 := Scf.iv c0_i32_5 c1_i32 k0_t1
  let c32_i32_501 : BitVec 32 := 32#32
  let v2272 : BitVec 32 := Scalar.muli arg14 c32_i32_501
  let v2273 : Index := Scalar.indexCast v2272
  let c0_502 : Index := 0#32
  ![60, v2273.toNat, 0]
def k0_off70 (k0_t1 : Fin k0_t1_loop.trips) : Fin 3 → Nat :=
  let c61 : Index := 61#32
  let c0_i32_5 : BitVec 32 := 0#32
  let c1_i32 : BitVec 32 := 1#32
  let arg14 : BitVec 32 := Scf.iv c0_i32_5 c1_i32 k0_t1
  let c32_i32_503 : BitVec 32 := 32#32
  let v2288 : BitVec 32 := Scalar.muli arg14 c32_i32_503
  let v2289 : Index := Scalar.indexCast v2288
  let c0_504 : Index := 0#32
  ![61, v2289.toNat, 0]
def k0_off71 (k0_t1 : Fin k0_t1_loop.trips) : Fin 3 → Nat :=
  let c62 : Index := 62#32
  let c0_i32_5 : BitVec 32 := 0#32
  let c1_i32 : BitVec 32 := 1#32
  let arg14 : BitVec 32 := Scf.iv c0_i32_5 c1_i32 k0_t1
  let c32_i32_505 : BitVec 32 := 32#32
  let v2304 : BitVec 32 := Scalar.muli arg14 c32_i32_505
  let v2305 : Index := Scalar.indexCast v2304
  let c0_506 : Index := 0#32
  ![62, v2305.toNat, 0]
def k0_off72 (k0_t1 : Fin k0_t1_loop.trips) : Fin 3 → Nat :=
  let c63 : Index := 63#32
  let c0_i32_5 : BitVec 32 := 0#32
  let c1_i32 : BitVec 32 := 1#32
  let arg14 : BitVec 32 := Scf.iv c0_i32_5 c1_i32 k0_t1
  let c32_i32_507 : BitVec 32 := 32#32
  let v2320 : BitVec 32 := Scalar.muli arg14 c32_i32_507
  let v2321 : Index := Scalar.indexCast v2320
  let c0_508 : Index := 0#32
  ![63, v2321.toNat, 0]
def k0_off73 (k0_t1 : Fin k0_t1_loop.trips) : Fin 3 → Nat :=
  let c0_537 : Index := 0#32
  let c0_i32_5 : BitVec 32 := 0#32
  let c1_i32 : BitVec 32 := 1#32
  let arg14 : BitVec 32 := Scf.iv c0_i32_5 c1_i32 k0_t1
  let c32_i32_536 : BitVec 32 := 32#32
  let v2466 : BitVec 32 := Scalar.muli arg14 c32_i32_536
  let v2467 : Index := Scalar.indexCast v2466
  let c0_538 : Index := 0#32
  ![0, v2467.toNat, 0]
def k0_off74 (k0_t1 : Fin k0_t1_loop.trips) : Fin 3 → Nat :=
  let c0_540 : Index := 0#32
  let c0_i32_5 : BitVec 32 := 0#32
  let c1_i32 : BitVec 32 := 1#32
  let arg14 : BitVec 32 := Scf.iv c0_i32_5 c1_i32 k0_t1
  let c32_i32_539 : BitVec 32 := 32#32
  let v2471 : BitVec 32 := Scalar.muli arg14 c32_i32_539
  let v2472 : Index := Scalar.indexCast v2471
  let c128_541 : Index := 128#32
  ![0, v2472.toNat, 128]
def k0_off75 (k0_t1 : Fin k0_t1_loop.trips) : Fin 3 → Nat :=
  let c1_543 : Index := 1#32
  let c0_i32_5 : BitVec 32 := 0#32
  let c1_i32 : BitVec 32 := 1#32
  let arg14 : BitVec 32 := Scf.iv c0_i32_5 c1_i32 k0_t1
  let c32_i32_542 : BitVec 32 := 32#32
  let v2476 : BitVec 32 := Scalar.muli arg14 c32_i32_542
  let v2477 : Index := Scalar.indexCast v2476
  let c0_544 : Index := 0#32
  ![1, v2477.toNat, 0]
def k0_off76 (k0_t1 : Fin k0_t1_loop.trips) : Fin 3 → Nat :=
  let c1_546 : Index := 1#32
  let c0_i32_5 : BitVec 32 := 0#32
  let c1_i32 : BitVec 32 := 1#32
  let arg14 : BitVec 32 := Scf.iv c0_i32_5 c1_i32 k0_t1
  let c32_i32_545 : BitVec 32 := 32#32
  let v2481 : BitVec 32 := Scalar.muli arg14 c32_i32_545
  let v2482 : Index := Scalar.indexCast v2481
  let c128_547 : Index := 128#32
  ![1, v2482.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GateUpRefIdeal.lean ====
abbrev S16384x2048 : Shape := ⟨2, ![16384, 2048]⟩
abbrev S16384x64 : Shape := ⟨2, ![16384, 64]⟩
abbrev S2048x12288 : Shape := ⟨2, ![2048, 12288]⟩
abbrev S64x12288 : Shape := ⟨2, ![64, 12288]⟩
abbrev S16384x6144 : Shape := ⟨2, ![16384, 6144]⟩
abbrev S24x16384x8 : Shape := ⟨3, ![24, 16384, 8]⟩
abbrev S16384x64x32 : Shape := ⟨3, ![16384, 64, 32]⟩
abbrev S64x16384x32 : Shape := ⟨3, ![64, 16384, 32]⟩
abbrev S64x32x12288 : Shape := ⟨3, ![64, 32, 12288]⟩
abbrev S64x16384x12288 : Shape := ⟨3, ![64, 16384, 12288]⟩
abbrev S64x16384 : Shape := ⟨2, ![64, 16384]⟩
abbrev S64x16384x1 : Shape := ⟨3, ![64, 16384, 1]⟩
abbrev S64x1x12288 : Shape := ⟨3, ![64, 1, 12288]⟩
abbrev S16384x12288 : Shape := ⟨2, ![16384, 12288]⟩
abbrev S16384x192x32 : Shape := ⟨3, ![16384, 192, 32]⟩
abbrev S16384x192 : Shape := ⟨2, ![16384, 192]⟩
abbrev S16384x192x1 : Shape := ⟨3, ![16384, 192, 1]⟩
abbrev S16384x192x253 : Shape := ⟨3, ![16384, 192, 253]⟩
abbrev S16384x24x8 : Shape := ⟨3, ![16384, 24, 8]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .fp8e4m3⟩
  | .hbm, ⟨1, _⟩ => ⟨S16384x64, .i8⟩
  | .hbm, ⟨2, _⟩ => ⟨S2048x12288, .fp8e4m3⟩
  | .hbm, ⟨3, _⟩ => ⟨S64x12288, .i8⟩
  | .hbm, ⟨4, _⟩ => ⟨S16384x6144, .fp8e4m3⟩
  | .hbm, ⟨5, _⟩ => ⟨S24x16384x8, .i32⟩
  | .hbm, ⟨6, _⟩ => ⟨S16384x6144, .bf16⟩
  | .local _ .vmem, ⟨0, _⟩ => ⟨S16384x2048, .fp8e4m3⟩
  | .local _ .vmem, ⟨1, _⟩ => ⟨S16384x64, .i8⟩
  | .local _ .vmem, ⟨2, _⟩ => ⟨S2048x12288, .fp8e4m3⟩
  | .local _ .vmem, ⟨3, _⟩ => ⟨S64x12288, .i8⟩
  | .local _ .vmem, ⟨4, _⟩ => ⟨S16384x6144, .fp8e4m3⟩
  | .local _ .vmem, ⟨5, _⟩ => ⟨S24x16384x8, .i32⟩
  | .local _ .vmem, ⟨6, _⟩ => ⟨S16384x6144, .bf16⟩
  | _, _ => ⟨S16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x16384x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.DownValue.lean ====
/- The down product: the accumulator over the blocks of the contraction is the plain matrix product. -/
module

public import proofs.«01_k».proof.Proof.Gen.DownIdeal.Value
public import proofs.«01_k».proof.Proof.Gen.DownRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The product of the two whole arrays. -/
abbrev REF (X : FVec Ideal S16384x6144 .bf16) (W : FVec Ideal S6144x2048 .bf16) : FVec Ideal S16384x2048 .f32 :=
  Host.dotGeneral Cert.DownRefIdeal.dot_S16384x6144_S6144x2048_S16384x2048_1_0_0_1_n_n none X W

theorem hpay1 (x : FVec Ideal S1024x1024 .bf16) (w : FVec Ideal S1024x2048 .bf16) (j : S1024x2048.Idx) :
    k0_pay1 (F := Ideal) x w j = 0 + ∑ k : Fin 1024, x (ix2 (j 0) k) * w (ix2 k (j 1)) := by
  rw [zero_add]; pointwise [k0_pay1]

theorem hpay2 (x : FVec Ideal S1024x1024 .bf16) (w : FVec Ideal S1024x2048 .bf16) (acc : FVec Ideal S1024x2048 .f32) (j : S1024x2048.Idx) :
    k0_pay2 (F := Ideal) x w acc j = acc j + ∑ k : Fin 1024, x (ix2 (j 0) k) * w (ix2 k (j 1)) := by
  pointwise [k0_pay2, k0_pay1]

theorem href (X : FVec Ideal S16384x6144 .bf16) (W : FVec Ideal S6144x2048 .bf16) (j : S16384x2048.Idx) :
    REF X W j = ∑ l : Fin 6144, X (ix2 (j 0) l) * W (ix2 l (j 1)) := by
  pointwise [REF]

theorem idx : ∀ t : Fin cfg0.N, win0_0.index t = ![t.val / 6, t.val % 6] ∧ win0_1.index t = ![t.val % 6, 0]
    ∧ win0_2.index t = ![t.val / 6, 0] :=
  (by decide +kernel : ∀ t : Fin grid0.N, _)

/-- The result array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 6 (fun _ => (0 : EReal)) _
    (fun t h j => by rw [outsAt0_A m c t h (by omega)]; frame_out; rw [hpay1])
    (fun t h j => by rw [outsAt0_B m c t h (by omega)]; frame_out; rw [hpay2])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DownIdeal.Value

/-- The down product against the plain product. -/
theorem Cert.DownIdeal.Value.algebraic : Cert.algebraic_DownIdeal_DownRefIdeal := by
  pair_intro
  · run_from Cert.DownIdeal.Gen.run_main m g
  · hlo_run
    exact (Cert.DownIdeal.Value.final m c).symm

end
-- ==== Proof.Scalar.lean ====
/- Powers of two as the programs write them: a biased exponent shifted into an f32's exponent field, and
   `exp2` of the exponent with the flush to zero and the infinity written out. -/
module

public import Idealize.ShloMosaic.Lib.Pointwise

@[expose] public section

noncomputable section

open Idealize.ShloMosaic

namespace Cert.Pow

/-- The f32 whose exponent field is the integer `b`: what a shift by the mantissa's width and a bitcast make. -/
abbrev field (b : BitVec 32) : EReal := Ideal.ofBits .f32 (IntOp.shli .vector b 23#32)

/-- The reference's power of two: zero below -126, infinity above 127, `exp2` between. -/
abbrev power (e : BitVec 32) : EReal :=
  Scalar.select (α := EReal) (IntOp.cmpi .slt e 4294967170#32) 0
    (Scalar.select (α := EReal) (IntOp.cmpi .sgt e 127#32) (Ideal.ofBits .f32 2139095040#32)
      (Ideal.exp2 ((e.toInt : ℝ) : EReal)))

/-- 2^(n-127) as a biased exponent `n` in 0..255 denotes it: 0 at 0, infinity at 255. -/
def val (n : ℕ) : EReal :=
  if n = 0 then 0 else if n = 255 then ⊤ else (((2 : ℝ) ^ ((n : ℤ) - 127) : ℝ) : EReal)

theorem parts : ∀ n : Fin 256, ((IntOp.shli .vector (BitVec.ofNat 32 n) 23#32).extractLsb' (8 + 23) 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

theorem ieee_of (b : BitVec 32) (n : ℕ) (h1 : (b.extractLsb' (8 + 23) 1 == 1#1) = false)
    (h2 : (b.extractLsb' 23 8).toNat = n) (h3 : (b.extractLsb' 0 23).toNat = 0) : Ideal.ieee 8 23 b = val n := by
  unfold Ideal.ieee val
  simp only [h1, h2, h3]
  by_cases h0 : n = 0
  · subst h0; simp
  by_cases h255 : n = 255
  · subst h255; simp
  rw [if_neg (by omega), if_neg h0, if_neg h0, if_neg h255]
  congr 1
  rw [show ((n : ℤ) - 127) = 23 + ((n : ℤ) - 127 - 23) by ring, zpow_add₀ (by norm_num)]
  norm_num

/-- The shifted field denotes its power of two. -/
theorem field_eq (n : ℕ) (h : n < 256) : field (BitVec.ofNat 32 n) = val n :=
  have ⟨h1, h2, h3⟩ := parts ⟨n, h⟩
  ieee_of _ n h1 h2 h3

theorem sub_facts : ∀ n : Fin 256, (IntOp.cmpi .slt (BitVec.ofNat 32 n - 127#32) 4294967170#32 = if n.val = 0 then 1#1 else 0#1)
    ∧ (IntOp.cmpi .sgt (BitVec.ofNat 32 n - 127#32) 127#32 = if n.val = 255 then 1#1 else 0#1)
    ∧ (BitVec.ofNat 32 n - 127#32).toInt = (n.val : ℤ) - 127 := by decide +kernel

theorem inf_eq : Ideal.ofBits .f32 2139095040#32 = ⊤ := by
  have h := ieee_of 2139095040#32 255 (by decide) (by decide) (by decide)
  exact h.trans (by simp [val])

theorem exp2_int (z : ℤ) : Ideal.exp2 ((z : ℝ) : EReal) = (((2 : ℝ) ^ z : ℝ) : EReal) := by
  rw [Ideal.exp2_coe]; congr 1; exact Real.rpow_intCast 2 z

/-- The reference's power of two of `n - 127` is the same number. -/
theorem power_eq (n : ℕ) (h : n < 256) : power (BitVec.ofNat 32 n - 127#32) = val n := by
  obtain ⟨h1, h2, h3⟩ := sub_facts ⟨n, h⟩
  unfold power val
  simp only at h1 h2 h3
  rw [h1, h2, h3, inf_eq, exp2_int]
  by_cases h0 : n = 0
  · simp [h0, Scalar.select]
  · by_cases h255 : n = 255 <;> simp [h0, h255, Scalar.select]

/-- A byte's field is the reference's power of two of the byte less 127. -/
theorem field_setWidth (b : BitVec 8) : field (b.setWidth 32) = power (b.setWidth 32 - 127#32) := by
  have h : b.setWidth 32 = BitVec.ofNat 32 b.toNat := by ext; simp
  rw [h, field_eq _ b.isLt, power_eq _ b.isLt]

end Cert.Pow
end
-- ==== Proof.DequantValue.lean ====
/- The down weight, dequantised: the biased exponent shifted into place is the reference's power of two. -/
module

public import proofs.«01_k».proof.Proof.Gen.DequantIdeal.Value
public import proofs.«01_k».proof.Proof.Gen.DequantRefIdeal.Value
public import Idealize.ShloMosaic.Lib.Pipeline.ValueKit
public import Idealize.ShloMosaic.Lib.Pointwise
public import Idealize.ShloMosaic.Lib.Claim
public import proofs.«01_k».proof.Proof.Scalar
public import proofs.«01_k».proof.Defs

@[expose] public section

set_option maxRecDepth 16384

noncomputable section

open Idealize.ShloMosaic Idealize.ShloMosaic.TcCoe Idealize.SL.Sem
open Idealize.ShloMosaic.Pipeline (Dat)

namespace Cert.DequantIdeal.Value

open Cert.DequantIdeal Cert.DequantIdeal.Gen

variable (m : (ℓ : Loc nD τ sig) → Buf (Elt Ideal) ℓ)

theorem hpay (x : FVec Ideal S6144x256 .fp8e4m3) (s : IVec S192x256 32) (j : S6144x256.Idx) :
    k0_pay1 (F := Ideal) x s j = x j * Cert.Pow.field (s (ix2 ⟨(j 0).val / 32, by have := (j 0).isLt; change _ < 6144 at this; omega⟩ (j 1))) := by
  pointwise [k0_pay1]

theorem href (x : FVec Ideal Cert.DequantRefIdeal.S6144x2048 .fp8e4m3) (s : IVec Cert.DequantRefIdeal.S192x2048 8) (j : Cert.DequantRefIdeal.S6144x2048.Idx) :
    Cert.DequantRefIdeal.Gen.k0_pay1 (F := Ideal) x s j
      = x j * Cert.Pow.field ((s (ix2 ⟨(j 0).val / 32, by have := (j 0).isLt; change _ < 6144 at this; omega⟩ (j 1))).setWidth 32) := by
  rw [Cert.Pow.field_setWidth]
  pointwise [Cert.DequantRefIdeal.Gen.k0_pay1, Cert.Pow.power]
  rfl

theorem idx : ∀ t : Fin cfg0.N, win0_0.index t = ![0, t.val] ∧ win0_1.index t = ![0, t.val]
    ∧ win0_2.index t = ![0, t.val] :=
  (by decide +kernel : ∀ t : Fin grid0.N, _)

/-- The scales as the region finds them: the argument's bytes widened. -/
theorem scales (c : Dev nD) : V m c main_v0 = extui 32 (m ((c : Thread nD τ).loc main_arg1)) natLt_8_32 := by
  entry_read
  rfl

theorem final (c : Dev nD) : (dats m 0 c).arrAt 2 (cfgs 0).N
    = Cert.DequantRefIdeal.Value.G2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine (hpay _ _ _).trans (Eq.trans ?_ (href _ _ _).symm)
  blk_point [iblk, scales, V_main_arg0, idx t]
  rw [scales]
  refine congrArg (fun b : BitVec 8 => Cert.Pow.field (b.setWidth 32)) (congrArg (m ((c : Thread nD τ).loc main_arg1)) ?_)
  blk_ext [idx t]

end Cert.DequantIdeal.Value

/-- The dequantised weight against the plain one. -/
theorem Cert.DequantIdeal.Value.algebraic : Cert.algebraic_DequantIdeal_DequantRefIdeal := by
  pair_intro
  · run_from Cert.DequantIdeal.Gen.run_main m g
  · run_from Cert.DequantRefIdeal.Value.run m' g'
    exact (Cert.DequantIdeal.Value.final m c).symm
end
-- ==== Proof.Search.lean ====
/- The block exponent. The kernel finds the biased exponent of `t` one bit at a time, from the highest; the
   reference counts the powers of two not above `t`. Both name the largest power of two not above `t`. -/
module

public import proofs.«01_k».proof.Proof.Scalar

@[expose] public section

noncomputable section

open Idealize.ShloMosaic

namespace Cert.Pow

theorem val_mono {a b : ℕ} (h : a ≤ b) (hb : b < 256) : val a ≤ val b := by
  unfold val
  by_cases ha0 : a = 0
  · rw [if_pos ha0]
    by_cases hb0 : b = 0
    · rw [if_pos hb0]
    · rw [if_neg hb0]
      by_cases hb1 : b = 255
      · rw [if_pos hb1]; exact le_top
      · rw [if_neg hb1]; exact EReal.coe_nonneg.mpr (by positivity)
  · rw [if_neg ha0, if_neg (show ¬ b = 0 by omega)]
    by_cases hb1 : b = 255
    · rw [if_pos hb1]; exact le_top
    · rw [if_neg (show ¬ a = 255 by omega), if_neg hb1]
      exact EReal.coe_le_coe_iff.mpr (zpow_le_zpow_right₀ (by norm_num) (by omega))

/-- One bit of the search: the bit stays when `t` reaches the power of two it names. -/
def step (t : EReal) (f b : BitVec 32) : BitVec 32 :=
  Scalar.select (Ideal.cmp .olt t (field (f + b))) f (f + b)

/-- The eight bits, highest first. -/
abbrev search (t : EReal) : BitVec 32 :=
  step t (step t (step t (step t (step t (step t (step t (step t 0#32 128#32) 64#32) 32#32) 16#32) 8#32) 4#32) 2#32) 1#32

/-- `n` is the last of the powers not above `t`, up to the width `w` still searched. -/
def At (t : EReal) (f : BitVec 32) (n w : ℕ) : Prop :=
  f = BitVec.ofNat 32 n ∧ n + w ≤ 256 ∧ val n ≤ t ∧ (n + w < 256 → t < val (n + w))

theorem At.step {t : EReal} {f : BitVec 32} {n : ℕ} (b : ℕ) (hb : 0 < b) (h : At t f n (2 * b)) :
    ∃ n', At t (step t f (BitVec.ofNat 32 b)) n' b := by
  obtain ⟨hf, hw, hle, hlt⟩ := h
  have hsum : f + BitVec.ofNat 32 b = BitVec.ofNat 32 (n + b) := by rw [hf, BitVec.ofNat_add]
  have hfield : field (f + BitVec.ofNat 32 b) = val (n + b) := by rw [hsum]; exact field_eq _ (by omega)
  unfold Cert.Pow.step
  rw [hfield]
  by_cases ht : t < val (n + b)
  · refine ⟨n, ?_, by omega, hle, fun _ => ht⟩
    simp [Ideal.cmp, ht, Scalar.select, hf]
  · refine ⟨n + b, ?_, by omega, not_lt.mp ht, fun hh => ?_⟩
    · simp [Ideal.cmp, ht, Scalar.select]; rw [hf, BitVec.ofNat_add]
    · have := hlt (by omega); rwa [show n + 2 * b = n + b + b by ring] at this

/-- The search ends at the last power not above `t`. -/
theorem search_at {t : EReal} (h : 0 ≤ t) : ∃ n, At t (search t) n 1 := by
  have h0 : At t 0#32 0 (2 * 128) := ⟨rfl, by norm_num, by simpa [val] using h, by intro hh; omega⟩
  obtain ⟨n1, h1⟩ := h0.step 128 (by norm_num)
  obtain ⟨n2, h2⟩ := At.step 64 (by norm_num) h1
  obtain ⟨n3, h3⟩ := At.step 32 (by norm_num) h2
  obtain ⟨n4, h4⟩ := At.step 16 (by norm_num) h3
  obtain ⟨n5, h5⟩ := At.step 8 (by norm_num) h4
  obtain ⟨n6, h6⟩ := At.step 4 (by norm_num) h5
  obtain ⟨n7, h7⟩ := At.step 2 (by norm_num) h6
  exact At.step 1 (by norm_num) h7

theorem At.le_iff {t : EReal} {f : BitVec 32} {n : ℕ} (h : At t f n 1) {k : ℕ} (hk : k < 256) : val k ≤ t ↔ k ≤ n := by
  obtain ⟨-, hw, hle, hlt⟩ := h
  constructor
  · intro hv
    by_contra hc
    exact absurd (lt_of_le_of_lt hv (hlt (by omega))) (not_lt.mpr (val_mono (by omega) hk))
  · intro hkn
    exact (val_mono hkn (by omega)).trans hle

/-- The kernel's biased exponent of a scaled block maximum. -/
abbrev biased (t : EReal) : BitVec 32 :=
  Scalar.select (Ideal.cmp .oeq t 0) 127#32 (IntOp.minsi (search t + 1#32) 254#32)

/-- How many of the powers 2^-126 … 2^126 are not above `t`. -/
abbrev count (t : EReal) : ℕ := (Finset.univ.filter fun k : Fin 253 => val (k.val + 1) ≤ t).card

/-- The reference's exponent: zero for a zero maximum, else the count less 126. -/
abbrev expo (a c : EReal) : BitVec 32 :=
  Scalar.select (Ideal.cmp .oeq a 0) 0#32 (BitVec.ofNat 32 (count (a * c)) - 126#32)

theorem At.count_eq {t : EReal} {f : BitVec 32} {n : ℕ} (h : At t f n 1) : count t = min n 253 := by
  unfold count
  have : (Finset.univ.filter fun k : Fin 253 => val (k.val + 1) ≤ t) = Finset.univ.filter fun k : Fin 253 => k.val < min n 253 := by
    ext k
    simp only [Finset.mem_filter, Finset.mem_univ, true_and]
    rw [h.le_iff (by omega)]
    have := k.isLt
    omega
  rw [this, Fin.card_filter_val_lt]
  omega

theorem minsi_facts : ∀ n : Fin 256, IntOp.minsi (BitVec.ofNat 32 n + 1#32) 254#32 = BitVec.ofNat 32 (min n.val 253) - 126#32 + 127#32 := by
  decide +kernel

/-- The two exponents agree. -/
theorem biased_eq {a c : EReal} (ha : 0 ≤ a) (hc : 0 < c) : biased (a * c) = expo a c + 127#32 := by
  have hz : (a * c = 0) ↔ a = 0 := by rw [mul_eq_zero]; exact or_iff_left hc.ne'
  obtain ⟨n, h⟩ := search_at (mul_nonneg ha hc.le)
  unfold biased expo
  by_cases h0 : a = 0
  · simp [h0, Ideal.cmp, Scalar.select]
  · have h1 : ¬ a * c = 0 := fun hh => h0 (hz.mp hh)
    have hn : n < 256 := by have := h.2.1; omega
    simp only [Ideal.cmp, h0, h1, Scalar.select, h.count_eq, h.1, decide_false, BitVec.ofBool_false]
    exact minsi_facts ⟨n, hn⟩

theorem expo_facts : ∀ n : Fin 254, (BitVec.ofNat 32 n - 126#32 + 127#32 = BitVec.ofNat 32 (n + 1))
    ∧ 0#32 - (BitVec.ofNat 32 n - 126#32) = BitVec.ofNat 32 (253 - n) - 127#32
    ∧ 254#32 - BitVec.ofNat 32 (n + 1) = BitVec.ofNat 32 (253 - n) := by
  decide +kernel

theorem expo_cases (a c : EReal) : ∃ n : Fin 254, expo a c = BitVec.ofNat 32 n - 126#32 := by
  unfold expo
  by_cases h0 : a = 0
  · exact ⟨126, by simp [h0, Ideal.cmp, Scalar.select]⟩
  · have : count (a * c) ≤ 253 := (Finset.card_filter_le _ _).trans (by simp)
    exact ⟨⟨count (a * c), by omega⟩, by simp [h0, Ideal.cmp, Scalar.select]⟩

/-- The inverse scale: the kernel's field at 254 less the biased exponent is the reference's power of the negated exponent. -/
theorem inv_eq (a c : EReal) : field (254#32 - (expo a c + 127#32)) = power (0#32 - expo a c) := by
  obtain ⟨n, h⟩ := expo_cases a c
  obtain ⟨h1, h2, h3⟩ := expo_facts n
  rw [h, h1, h2, h3, power_eq _ (by omega), field_eq _ (by omega)]

/-- The scale itself, decoded again. -/
theorem scale_eq (a c : EReal) : field (expo a c + 127#32) = power (expo a c + 127#32 - 127#32) := by
  obtain ⟨n, h⟩ := expo_cases a c
  obtain ⟨h1, h2, h3⟩ := expo_facts n
  rw [h, h1, power_eq _ (by omega), field_eq _ (by omega)]

end Cert.Pow
end
-- ==== Proof.VSearch.lean ====
/- The search for the exponent, one bit over a whole vector. -/
module

public import proofs.«01_k».proof.Proof.Search
public import Idealize.ShloMosaic.Lib.IndicatorCount

@[expose] public section

noncomputable section

open Idealize.ShloMosaic

namespace Cert.Pow

variable {S : Shape}

/-- One bit of the search at every index. -/
def vstep (t : FVec Ideal S .f32) (f : IVec S 32) (b : BitVec 32) : IVec S 32 :=
  select (cmpf .olt t (bitcastToFloat .f32 (shli (addi f (broadcast S b)) (broadcast S 23#32)))) f (addi f (broadcast S b))

theorem vstep_def (t : FVec Ideal S .f32) (f : IVec S 32) (b : BitVec 32) :
    select (cmpf .olt t (bitcastToFloat .f32 (shli (addi f (broadcast S b)) (broadcast S 23#32)))) f (addi f (broadcast S b)) = vstep t f b := rfl

theorem vstep_at (t : FVec Ideal S .f32) (f : IVec S 32) (b : BitVec 32) (j : S.Idx) : vstep t f b j = step (t j) (f j) b := rfl

/-- The eight bits at every index. -/
theorem search_at_vec (t : FVec Ideal S .f32) (j : S.Idx) :
    vstep t (vstep t (vstep t (vstep t (vstep t (vstep t (vstep t (vstep t (broadcast S 0#32) 128#32) 64#32) 32#32) 16#32) 8#32) 4#32) 2#32) 1#32 j
      = search (t j) := by
  have h0 : broadcast S 0#32 j = 0#32 := rfl
  have h := congrArg (fun f => step (t j) (step (t j) (step (t j) (step (t j) (step (t j) (step (t j) (step (t j) (step (t j) f 128#32) 64#32) 32#32) 16#32) 8#32) 4#32) 2#32) 1#32) h0
  refine Eq.trans ?_ h
  rw [vstep_at, vstep_at, vstep_at, vstep_at, vstep_at, vstep_at, vstep_at, vstep_at]

/-- The largest magnitude of a block of 32. -/
def amax (f : Fin 32 → Ideal .f32) : Ideal .f32 :=
  Finset.univ.fold max (Ideal.ofBits .f32 4286578688#32) fun k => FloatOps.absf (F := Ideal) (φ := .f32) (f k)

theorem amax_nonneg (f : Fin 32 → Ideal .f32) : (0 : EReal) ≤ amax f := by
  have h : FloatOps.absf (F := Ideal) (φ := .f32) (f 0) ≤ amax f :=
    Finset.le_fold_max _ |>.mpr (Or.inr ⟨0, Finset.mem_univ _, le_refl _⟩)
  refine le_trans ?_ h
  show (0 : EReal) ≤ max (f 0 : EReal) (-(f 0 : EReal))
  rcases le_total (0 : EReal) (f 0 : EReal) with h0 | h0
  · exact le_max_of_le_left h0
  · exact le_max_of_le_right (EReal.neg_nonneg.mpr h0)

/-- The f32 nearest 1/448, by which the maximum is scaled. -/
abbrev c448 : EReal := Ideal.ofBits .f32 991054117#32

theorem c448_pos : (0 : EReal) < c448 := by
  show (0 : EReal) < Ideal.ieee 8 23 991054117#32
  have h : Ideal.ieee 8 23 991054117#32 = (((9586981 : ℝ) * (1 / 4294967296) : ℝ) : EReal) := by
    simp [Ideal.ieee, -EReal.coe_mul]; norm_num
  rw [h]
  exact EReal.coe_pos.mpr (by norm_num)

theorem pow_facts : ∀ k : Fin 253, (IntOp.subi (BitVec.ofNat 32 k) 126#32).toInt = (k.val : ℤ) - 126 := by decide +kernel

/-- The reference's power number `k`. -/
theorem exp2_at (k : Fin 253) :
    (FloatOps.exp2 (F := Ideal) (φ := .f32) (FloatOps.sitofp .f32 (IntOp.subi (BitVec.ofNat 32 k) 126#32)) : EReal) = val (k.val + 1) := by
  show Ideal.exp2 (((IntOp.subi (BitVec.ofNat 32 k) 126#32).toInt : ℝ) : EReal) = _
  rw [pow_facts, exp2_int]
  unfold val
  rw [if_neg (by omega), if_neg (by omega)]
  congr 2
  push_cast
  ring

/-- The reference's count, as it adds it up in words. -/
theorem count_fold (t : Ideal .f32) :
    (Finset.univ.fold IntOp.addi 0#32 fun k : Fin 253 =>
      (FloatOps.cmpf (F := Ideal) (φ := .f32) .oge t (FloatOps.exp2 (F := Ideal) (φ := .f32) (FloatOps.sitofp .f32 (IntOp.subi (BitVec.ofNat 32 k) 126#32)))).setWidth 32)
      = BitVec.ofNat 32 (count t) := by
  rw [IndicatorCount.fold_addi_setWidth_eq_card]
  congr 2
  ext k
  simp only [Finset.mem_filter, Finset.mem_univ, true_and, exp2_at]
  show BitVec.ofBool (decide (_ ≤ _)) = 1#1 ↔ _
  by_cases h : val (k.val + 1) ≤ t <;> simp [h]

/-- A value clipped to the range of the code format. -/
def clip (v : Ideal .f32) : Ideal .f32 := min (Ideal.ofBits .f32 1138753536#32) (max (Ideal.ofBits .f32 3286237184#32) v)

end Cert.Pow
end
-- ==== Proof.QuantXRef.lean ====
/- The reference's quantiser of the input, read at an index. -/
module

public import proofs.«01_k».proof.Proof.Gen.QuantXRefIdeal.Value
public import Idealize.ShloMosaic.Lib.Pointwise
public import proofs.«01_k».proof.Proof.VSearch

@[expose] public section

set_option maxRecDepth 16384

noncomputable section

open Idealize.ShloMosaic Idealize.ShloMosaic.TcCoe
open Cert.Pow (amax c448 expo power)

namespace Cert.QuantXRefIdeal.Gen

open Cert.QuantXRefIdeal

theorem cast_up (w : FVec Ideal S16384x64 .f32) (j : S16384x64x1.Idx) : shapeCast S16384x64x1 w shapeCasts_S16384x64_S16384x64x1 j = w (ix2 (j 0) (j 1)) := by
  pointwise

theorem cast_up_i (w : IVec S16384x64 32) (j : S16384x64x1.Idx) : shapeCast S16384x64x1 w shapeCasts_S16384x64_S16384x64x1 j = w (ix2 (j 0) (j 1)) := by
  pointwise

theorem cast_down (w : FVec Ideal S16384x64 .f32) : shapeCast S16384x64 (shapeCast S16384x64x1 w shapeCasts_S16384x64_S16384x64x1) shapeCasts_S16384x64x1_S16384x64 = w := by
  funext j
  idx_vars j
  pointwise

theorem p3 (x : FVec Ideal S16384x2048 .f32) (j : S16384x64x32.Idx) : k0_pay3 (F := Ideal) x j = x (ix2 (j 0) ⟨(j 1).val * 32 + (j 2).val, by have h0 := (j 1).isLt; have h1 := (j 2).isLt; change _ < 64 at h0; change _ < 32 at h1; omega⟩) := by
  pointwise [k0_pay3]

theorem p_max (v : FVec Ideal S16384x64x32 .f32) (j : S16384x64.Idx) : multiReduction (F := Ideal) .maximumf [2] S16384x64 (absf v) 0xFF800000#32 reduces_S16384x64x32_S16384x64 (.inl rfl) rfl j
   = amax (fun k => v (ix3 (j 0) (j 1) k)) := by
  pointwise [amax]

theorem p_count (t : FVec Ideal S16384x64 .f32) (j : S16384x64.Idx) :
    multiReductionI .add [2] S16384x64 (extui 32 (cmpf .oge (broadcastTo S16384x64x253 (shapeCast S16384x64x1 t shapeCasts_S16384x64_S16384x64x1) broadcasts_S16384x64x1_S16384x64x253)
      (exp2 (sitofp .f32 (subi (iota .tc S16384x64x253 32 [2] iota_S16384x64x253_d2_w32) (broadcast S16384x64x253 126#32))))) natLt_1_32) 0#32 reduces_S16384x64x253_S16384x64 rfl j
      = BitVec.ofNat 32 (Cert.Pow.count (t j)) := by
  rw [← Cert.Pow.count_fold]
  pointwise

theorem p4_sel (a : FVec Ideal S16384x64 .f32) (n : IVec S16384x64 32) (j : S16384x64x1.Idx) :
    select (cmpf .oeq (shapeCast S16384x64x1 a shapeCasts_S16384x64_S16384x64x1) (broadcast S16384x64x1 (Scalar.ofBits .f32 0x00000000#32 : Ideal .f32)))
      (broadcast S16384x64x1 0#32) (shapeCast S16384x64x1 (subi n (broadcast S16384x64 126#32)) shapeCasts_S16384x64_S16384x64x1) j
      = Scalar.select (Ideal.cmp .oeq (a (ix2 (j 0) (j 1))) 0) 0#32 (n (ix2 (j 0) (j 1)) - 126#32) := by
  show Scalar.select (Ideal.cmp .oeq _ (Ideal.ofBits .f32 0#32)) 0#32 _ = _
  rw [cast_up, cast_up_i, Ideal.ofBits_zero_f32]
  rfl

theorem p4_mul (a : FVec Ideal S16384x64 .f32) (j : S16384x64.Idx) :
    mulf a (broadcast S16384x64 (Scalar.ofBits .f32 0x3B124925#32 : Ideal .f32)) j = a j * c448 := rfl

/-- The block exponent. -/
theorem p4 (x : FVec Ideal S16384x2048 .f32) (j : S16384x64x1.Idx) :
    k0_pay4 (F := Ideal) x j = expo (amax fun k => x (ix2 (j 0) ⟨(j 1).val * 32 + k.val, by have h0 := (j 1).isLt; change _ < 64 at h0; omega⟩)) c448 := by
  unfold k0_pay4
  rw [cast_down]
  refine (p4_sel _ _ j).trans ?_
  rw [p_count, p_max, p4_mul, p_max]
  unfold expo
  simp only [p3]
  rfl

theorem p5_mul (v : FVec Ideal S16384x64x32 .f32) (e : IVec S16384x64x1 32) (j : S16384x64x32.Idx) :
    mulf v (broadcastTo S16384x64x32 (select (cmpi .slt e (broadcast S16384x64x1 4294967170#32)) (broadcast S16384x64x1 (Scalar.ofBits .f32 0x00000000#32 : Ideal .f32))
      (select (cmpi .sgt e (broadcast S16384x64x1 127#32)) (broadcast S16384x64x1 (Scalar.ofBits .f32 0x7F800000#32 : Ideal .f32)) (exp2 (sitofp .f32 e)))) broadcasts_S16384x64x1_S16384x64x32) j
      = v j * power (e (ix3 (j 0) (j 1) 0)) := by
  pointwise [power]
  rfl

/-- The code. -/
theorem p5 (x : FVec Ideal S16384x2048 .f32) (j : S16384x64x32.Idx) :
    k0_pay5 (F := Ideal) x j = Cert.Pow.clip (k0_pay3 (F := Ideal) x j * power (0#32 - k0_pay4 (F := Ideal) x (ix3 (j 0) (j 1) 0))) := by
  unfold k0_pay5
  exact congrArg Cert.Pow.clip (p5_mul (k0_pay3 (F := Ideal) x) (subi (broadcast S16384x64x1 0#32) (k0_pay4 (F := Ideal) x)) j)

theorem p1 (v : FVec Ideal S16384x64x32 .fp8e4m3) (j : S16384x2048.Idx) :
    k0_pay1 (F := Ideal) v j = v (ix3 (j 0) ⟨(j 1).val / 32, by have := (j 1).isLt; change _ < 2048 at this; omega⟩ ⟨(j 1).val % 32, by omega⟩) := by
  pointwise [k0_pay1]

theorem p2 (e : IVec S16384x64x1 32) (j : S16384x64.Idx) : k0_pay2 e j = (e (ix3 (j 0) (j 1) 0) + 127#32).setWidth 8 := by
  pointwise [k0_pay2]
  rfl

end Cert.QuantXRefIdeal.Gen

end
-- ==== Proof.QuantXValue.lean ====
/- The quantiser of the input: codes and block scales. -/
module

public import proofs.«01_k».proof.Proof.Gen.QuantXIdeal.Value
public import proofs.«01_k».proof.Proof.Gen.QuantXRefIdeal.Value
public import Idealize.ShloMosaic.Lib.Pipeline.ValueKit
public import Idealize.ShloMosaic.Lib.Pointwise
public import Idealize.ShloMosaic.Lib.Claim
public import proofs.«01_k».proof.Proof.VSearch
public import proofs.«01_k».proof.Proof.QuantXRef
public import proofs.«01_k».proof.Defs

@[expose] public section

set_option maxRecDepth 16384

noncomputable section

open Idealize.ShloMosaic Idealize.ShloMosaic.TcCoe Idealize.SL.Sem
open Idealize.ShloMosaic.Pipeline (Dat)
open Cert.Pow (vstep vstep_def vstep_at search search_at_vec biased clip amax c448)

namespace Cert.QuantXIdeal.Value

open Cert.QuantXIdeal Cert.QuantXIdeal.Gen

variable (m : (ℓ : Loc nD τ sig) → Buf (Elt Ideal) ℓ)

theorem p4 (x : FVec Ideal S512x2048 .f32) (j : S64x32x512.Idx) : k0_pay4 (F := Ideal) x j = x (ix2 (j 2) ⟨(j 0).val * 32 + (j 1).val, by have h0 := (j 0).isLt; have h1 := (j 1).isLt; change _ < 64 at h0; change _ < 32 at h1; omega⟩) := by
  pointwise [k0_pay4]

theorem p5_cast (w : FVec Ideal S64x512 .f32) (j : S64x1x512.Idx) : shapeCast S64x1x512 w shapeCasts_S64x512_S64x1x512 j = w (ix2 (j 0) (j 2)) := by
  pointwise

theorem p5_max (v : FVec Ideal S64x32x512 .f32) (j : S64x512.Idx) : multiReduction (F := Ideal) .maximumf [1] S64x512 (absf v) 0xFF800000#32 reduces_S64x32x512_S64x512 (.inl rfl) rfl j
   = amax (fun k => v (ix3 (j 0) k (j 1))) := by
  pointwise [amax]

theorem p5_mul (v : FVec Ideal S64x1x512 .f32) (j : S64x1x512.Idx) : mulf v (broadcast S64x1x512 (Scalar.ofBits .f32 0x3B124925#32 : Ideal .f32)) j = v j * c448 := by
  pointwise

theorem p5 (x : FVec Ideal S512x2048 .f32) (j : S64x1x512.Idx) : k0_pay5 (F := Ideal) x j =
    amax (fun k => x (ix2 (j 2) ⟨(j 0).val * 32 + k, by have := (j 0).isLt; change _ < 64 at this; omega⟩)) * c448 := by
  unfold k0_pay5
  refine (p5_mul _ j).trans ?_
  rw [p5_cast, p5_max]
  refine congrArg (fun f => amax f * c448) (funext fun k => ?_)
  exact p4 x _

theorem p6 (x : FVec Ideal S512x2048 .f32) : k0_pay6 (F := Ideal) x =
    vstep (k0_pay5 (F := Ideal) x) (vstep (k0_pay5 (F := Ideal) x) (vstep (k0_pay5 (F := Ideal) x) (broadcast S64x1x512 0#32) 128#32) 64#32) 32#32 := by
  unfold k0_pay6
  extract_lets v8 w1 v10 w23 a1 a2 a3 v17 w2 v19 b1 b2 b3 v26 w3 v28 c1 c2 c3 v35
  have e1 : v17 = vstep (k0_pay5 x) v8 128#32 := rfl
  clear_value v17
  have e2 : v26 = vstep (k0_pay5 x) v17 64#32 := rfl
  clear_value v26
  have e3 : v35 = vstep (k0_pay5 x) v26 32#32 := rfl
  rw [e3, e2, e1]

theorem p7 (x : FVec Ideal S512x2048 .f32) : k0_pay7 (F := Ideal) x =
    cmpf .olt (k0_pay5 (F := Ideal) x) (bitcastToFloat .f32 (shli (addi (k0_pay6 (F := Ideal) x) (broadcast S64x1x512 16#32)) (broadcast S64x1x512 23#32))) := by
  simp only [k0_pay7]

theorem p9 (t : FVec Ideal S64x1x512 .f32) (f : IVec S64x1x512 32) (b : IVec S64x1x512 1) (k : BitVec 32) :
    k0_pay9 (F := Ideal) t f b k = minsi (addi (vstep t (vstep t (vstep t (vstep t
      (select b f (addi f (broadcast S64x1x512 k))) 8#32) 4#32) 2#32) 1#32) (broadcast S64x1x512 1#32)) (broadcast S64x1x512 254#32) := by
  unfold k0_pay9
  extract_lets w0 v43 v44 w1 v46 w23 a1 a2 a3 v53 w2 v55 b1 b2 b3 v62 w3 v64 c1 c2 c3 v71 w4 v73 d1 d2 d3 v80 v84 v85 v86
  have e1 : v53 = vstep t v44 8#32 := rfl
  clear_value v53
  have e2 : v62 = vstep t v53 4#32 := rfl
  clear_value v62
  have e3 : v71 = vstep t v62 2#32 := rfl
  clear_value v71
  have e4 : v80 = vstep t v71 1#32 := rfl
  clear_value v80
  rw [← e1, ← e2, ← e3, ← e4]

theorem p69 (x : FVec Ideal S512x2048 .f32) (j : S64x1x512.Idx) :
    k0_pay9 (F := Ideal) (k0_pay5 (F := Ideal) x) (k0_pay6 (F := Ideal) x) (k0_pay7 (F := Ideal) x) 16#32 j = IntOp.minsi (search (k0_pay5 (F := Ideal) x j) + 1#32) 254#32 := by
  have hm : ∀ v : IVec S64x1x512 32, minsi (addi v (broadcast S64x1x512 1#32)) (broadcast S64x1x512 254#32) j = IntOp.minsi (v j + 1#32) 254#32 := fun _ => rfl
  rw [p9, p7, vstep_def, p6, hm]
  refine congrArg (fun v => IntOp.minsi (v + 1#32) 254#32) (search_at_vec _ j)

theorem p8 (t : FVec Ideal S64x1x512 .f32) (j : S64x1x512.Idx) : k0_pay8 (F := Ideal) t j = Ideal.cmp .oeq (t j) 0 := by
  pointwise [k0_pay8]

theorem p1_sel (b : IVec S64x1x512 1) (e : IVec S64x1x512 32) (j : S64x1x512.Idx) : k0_pay1 b e j = Scalar.select (b j) 127#32 (e j) := rfl

theorem p1 (x : FVec Ideal S512x2048 .f32) (j : S64x1x512.Idx) :
    k0_pay1 (k0_pay8 (F := Ideal) (k0_pay5 (F := Ideal) x)) (k0_pay9 (F := Ideal) (k0_pay5 (F := Ideal) x) (k0_pay6 (F := Ideal) x) (k0_pay7 (F := Ideal) x) 16#32) j
      = biased (k0_pay5 (F := Ideal) x j) := by
  rw [p1_sel, p69, p8]

theorem p3 (b : IVec S64x1x512 1) (e : IVec S64x1x512 32) (j : S512x64.Idx) :
    k0_pay3 b e j = (k0_pay1 b e (ix3 (j 1) 0 (j 0))).setWidth 8 := by
  pointwise [k0_pay3]

theorem p2 (v : FVec Ideal S64x32x512 .f32) (b : IVec S64x1x512 1) (e : IVec S64x1x512 32) (j : S512x2048.Idx) :
    k0_pay2 (F := Ideal) v b e j = clip (v (ix3 ⟨(j 1).val / 32, by have := (j 1).isLt; change _ < 2048 at this; omega⟩ ⟨(j 1).val % 32, by omega⟩ (j 0))
      * Cert.Pow.field (254#32 - k0_pay1 b e (ix3 ⟨(j 1).val / 32, by have := (j 1).isLt; change _ < 2048 at this; omega⟩ 0 (j 0)))) := by
  pointwise [k0_pay2, clip]
  rfl

theorem hz0 : (![0, 0] : Fin 2 → Nat) = fun _ => 0 := by decide

theorem ld_all (x : Vec Ideal S512x2048 .f32) : View.ld x r0_0 = x := View.ld_unit_zero hz0 _ x

theorem p10 (x : FVec Ideal S512x2048 .f32) : k0_pay10 (F := Ideal) x = k0_pay5 (F := Ideal) x := by
  unfold k0_pay10
  rw [ld_all]

theorem p11 (x : FVec Ideal S512x2048 .f32) : k0_pay11 (F := Ideal) x = k0_pay8 (F := Ideal) (k0_pay5 (F := Ideal) x) := by
  unfold k0_pay11
  rw [p10]

theorem p12 (x : FVec Ideal S512x2048 .f32) : k0_pay12 (F := Ideal) x
    = k0_pay9 (F := Ideal) (k0_pay5 (F := Ideal) x) (k0_pay6 (F := Ideal) x) (k0_pay7 (F := Ideal) x) 16#32 := by
  unfold k0_pay12
  rw [p10, ld_all]

/-- The largest magnitude of the block `g` of the row `r`. -/
def bmax (x : FVec Ideal S512x2048 .f32) (r : Fin 512) (g : Fin 64) : Ideal .f32 :=
  amax fun k => x (ix2 r ⟨g.val * 32 + k.val, by omega⟩)

theorem field1 (x : FVec Ideal S512x2048 .f32) (g : Fin 64) (r : Fin 512) :
    k0_pay1 (k0_pay11 (F := Ideal) x) (k0_pay12 (F := Ideal) x) (ix3 g 0 r) = Cert.Pow.expo (bmax x r g) c448 + 127#32 := by
  rw [p11, p12, p1, p5]
  exact Cert.Pow.biased_eq (Cert.Pow.amax_nonneg _) Cert.Pow.c448_pos

/-- The codes of a block. -/
theorem codes (x : FVec Ideal S512x2048 .f32) (j : S512x2048.Idx) :
    k0_pay2 (F := Ideal) (k0_pay4 (F := Ideal) x) (k0_pay11 (F := Ideal) x) (k0_pay12 (F := Ideal) x) j
      = clip (x j * Cert.Pow.power (0#32 - Cert.Pow.expo (bmax x (j 0) ⟨(j 1).val / 32, by have := (j 1).isLt; change _ < 2048 at this; omega⟩) c448)) := by
  refine (p2 _ _ _ j).trans (congrArg clip (congrArg₂ (· * ·) ((p4 x _).trans (congrArg x ?_)) ?_))
  · blk_ext
  · exact (congrArg (fun b => Cert.Pow.field (254#32 - b)) (field1 x _ _)).trans (Cert.Pow.inv_eq _ _)

/-- The scales of a block. -/
theorem scales (x : FVec Ideal S512x2048 .f32) (j : S512x64.Idx) :
    k0_pay3 (k0_pay11 (F := Ideal) x) (k0_pay12 (F := Ideal) x) j
      = (Cert.Pow.expo (bmax x (j 0) (j 1)) c448 + 127#32).setWidth 8 := by
  rw [p3]
  exact congrArg (BitVec.setWidth 8) (field1 x _ _)

theorem ref1 (x : FVec Ideal Cert.QuantXRefIdeal.S16384x2048 .f32) (j : Cert.QuantXRefIdeal.S16384x2048.Idx) :
    Cert.QuantXRefIdeal.Value.G1 (F := Ideal) x j
      = clip (x j * Cert.Pow.power (0#32 - Cert.Pow.expo (amax fun k : Fin 32 => x (ix2 (j 0) ⟨(j 1).val / 32 * 32 + k.val,
          by have := (j 1).isLt; change _ < 2048 at this; omega⟩)) c448)) := by
  refine (Cert.QuantXRefIdeal.Gen.p1 _ j).trans ?_
  rw [Cert.QuantXRefIdeal.Gen.p5, Cert.QuantXRefIdeal.Gen.p4, Cert.QuantXRefIdeal.Gen.p3]
  refine congrArg (fun i => clip (x i * _)) ?_
  blk_ext

theorem ref2 (x : FVec Ideal Cert.QuantXRefIdeal.S16384x2048 .f32) (j : Cert.QuantXRefIdeal.S16384x64.Idx) :
    Cert.QuantXRefIdeal.Value.G2 (F := Ideal) x j
      = (Cert.Pow.expo (amax fun k : Fin 32 => x (ix2 (j 0) ⟨(j 1).val * 32 + k.val,
          by have := (j 1).isLt; change _ < 64 at this; omega⟩)) c448 + 127#32).setWidth 8 := by
  refine (Cert.QuantXRefIdeal.Gen.p2 _ j).trans ?_
  exact congrArg (fun e => (e + 127#32).setWidth 8) (Cert.QuantXRefIdeal.Gen.p4 x _)

theorem idx : ∀ t : Fin cfg0.N, win0_0.index t = ![t.val, 0] ∧ win0_1.index t = ![t.val, 0]
    ∧ win0_2.index t = ![t.val, 0] :=
  (by decide +kernel : ∀ t : Fin grid0.N, _)

theorem final1 (c : Dev nD) : (dats m 0 c).arrAt 1 (cfgs 0).N
    = Cert.QuantXRefIdeal.Value.G1 (F := Ideal) (m ((c : Thread nD τ).loc main_arg0)) := by
  refine (dats m 0 c).arrAt_eq_of_covers 1 _ (by decide +kernel) fun t _ y => ?_
  blk_simp
  rw [after0_1]; frame_out
  refine (codes _ _).trans (Eq.trans ?_ (ref1 _ _).symm)
  refine congrArg clip (congrArg₂ (· * ·) ?_ (congrArg (fun f => Cert.Pow.power (0#32 - Cert.Pow.expo (amax f) c448)) (funext fun k => ?_)))
  · blk_point [iblk, V_main_arg0, idx t]
  · blk_point [iblk, V_main_arg0, idx t]

theorem final2 (c : Dev nD) : (dats m 0 c).arrAt 2 (cfgs 0).N
    = Cert.QuantXRefIdeal.Value.G2 (F := Ideal) (m ((c : Thread nD τ).loc main_arg0)) := by
  refine (dats m 0 c).arrAt_eq_of_covers 2 _ (by decide +kernel) fun t _ y => ?_
  blk_simp
  rw [after0_2]; frame_out
  refine (scales _ _).trans (Eq.trans ?_ (ref2 _ _).symm)
  refine congrArg (fun f => (Cert.Pow.expo (amax f) c448 + 127#32).setWidth 8) (funext fun k => ?_)
  blk_point [iblk, V_main_arg0, idx t]

end Cert.QuantXIdeal.Value

/-- The quantiser against the plain one. -/
theorem Cert.QuantXIdeal.Value.algebraic : Cert.algebraic_QuantXIdeal_QuantXRefIdeal := by
  pair_intro
  · run_from Cert.QuantXIdeal.Gen.run_main m g
  · refine θ_run_mono (Cert.QuantXRefIdeal.Value.run m' g') ?_
    intro r hr c
    obtain ⟨h1, h2, h3⟩ := hr c
    rw [hagree c] at h1 h2
    exact ⟨h1.trans (Cert.QuantXIdeal.Value.final1 m c).symm, h2.trans (Cert.QuantXIdeal.Value.final2 m c).symm, h3⟩
end
-- ==== Proof.GateUpEpi.lean ====
/- The end of a grid point of `gate_up`: of half a tile of gate and up products, the gated values, the largest magnitude
   of each block of 32 of them, the exponent, the codes, the dequantised codes and the scales. -/
module

public import proofs.«01_k».proof.Proof.Gen.GateUpIdeal.Skeleton
public import Idealize.ShloMosaic.Lib.Pointwise
public import Idealize.ShloMosaic.Lib.IdealHost
public import proofs.«01_k».proof.Proof.VSearch

@[expose] public section

set_option maxRecDepth 16384

noncomputable section

open Idealize.ShloMosaic Idealize.ShloMosaic.TcCoe Idealize.SL.Sem
open Cert.Pow (vstep vstep_def vstep_at search search_at_vec biased clip amax c448 expo field)

namespace Cert.GateUpIdeal.Gen

/-! ## The largest magnitude of a block, by exchanges of lanes -/

/-- The lane that lane `l` is compared with at distance `n`. -/
def flip (n : ℕ) (l : Fin 128) : Fin 128 :=
  if l.val / n % 2 = 0 then ⟨(l.val + n) % 128, by omega⟩ else ⟨(l.val + 128 - n) % 128, by omega⟩

/-- One exchange: each lane takes the larger of itself and its partner. -/
def vmax (s s' : BitVec 32) (v : FVec Ideal S256x128 .f32) : FVec Ideal S256x128 .f32 :=
  maximumf v (select (cmpi .eq (andi (iota .tc S256x128 32 [1] iota_S256x128_d1_w32) (broadcast S256x128 s)) (broadcast S256x128 0#32))
    (dynamicRotate 1 s' none v rotates_S256x128_d1) (dynamicRotate 1 s none v rotates_S256x128_d1))

theorem vmax_at (s s' : BitVec 32) (n : ℕ) (hs : s.toNat = n) (hs' : s'.toNat = 128 - n) (h0 : 0 < n) (hn : n < 128)
    (hb : ∀ l : Fin 128, IntOp.cmpi .eq (IntOp.andi (BitVec.ofNat 32 l.val) s) 0#32 = if l.val / n % 2 = 0 then 1#1 else 0#1)
    (v : FVec Ideal S256x128 .f32) (j : S256x128.Idx) :
    vmax s s' v j = max (v j) (v (ix2 (j 0) (flip n (j 1)))) := by
  have e : ∀ (t : BitVec 32) (q : ℕ), t.toNat = q → dynamicRotate 1 t none v rotates_S256x128_d1 j
      = v (ix2 (j 0) ⟨((j 1).val + 128 - q % 128) % 128, Nat.mod_lt _ (by norm_num)⟩) := by
    intro t q hq
    subst hq
    pointwise
  have hm : vmax s s' v j = max (v j) (Scalar.select (IntOp.cmpi .eq (IntOp.andi (iota .tc S256x128 32 [1] iota_S256x128_d1_w32 j) s) 0#32)
    (dynamicRotate 1 s' none v rotates_S256x128_d1 j) (dynamicRotate 1 s none v rotates_S256x128_d1 j)) := rfl
  have hi : iota .tc S256x128 32 [1] iota_S256x128_d1_w32 j = BitVec.ofNat 32 (j 1).val := by pointwise
  rw [hm, e s' _ hs', e s _ hs, hi]
  refine congrArg (max (v j)) ?_
  refine (congrArg (fun b => Scalar.select b _ _) (hb (j 1))).trans ?_
  unfold flip
  have hl : (j 1).val < 128 := (j 1).isLt
  by_cases h : (j 1).val / n % 2 = 0
  · rw [if_pos h, if_pos h]
    refine congrArg (fun l => v (ix2 (j 0) l)) (Fin.ext ?_)
    show ((j 1).val + 128 - (128 - n) % 128) % 128 = ((j 1).val + n) % 128
    rw [Nat.mod_eq_of_lt (by omega : 128 - n < 128)]
    congr 1
    omega
  · rw [if_neg h, if_neg h]
    refine congrArg (fun l => v (ix2 (j 0) l)) (Fin.ext ?_)
    show ((j 1).val + 128 - n % 128) % 128 = ((j 1).val + 128 - n) % 128
    rw [Nat.mod_eq_of_lt hn]

/-- `F` is at every lane the largest of `f` over the lane's block of `n`. -/
def IsMax (n : ℕ) (f F : Fin 128 → EReal) : Prop :=
  ∀ l, (∃ k : Fin 128, k.val / n = l.val / n ∧ F l = f k) ∧ ∀ k : Fin 128, k.val / n = l.val / n → f k ≤ F l

theorem IsMax.step {n : ℕ} {f F : Fin 128 → EReal} (h : IsMax n f F)
    (hf : ∀ l k : Fin 128, k.val / (2 * n) = l.val / (2 * n) ↔ (k.val / n = l.val / n ∨ k.val / n = (flip n l).val / n)) :
    IsMax (2 * n) f (fun l => max (F l) (F (flip n l))) := by
  intro l
  constructor
  · rcases le_total (F l) (F (flip n l)) with hle | hle
    · obtain ⟨k, hk, he⟩ := (h (flip n l)).1
      exact ⟨k, (hf l k).mpr (Or.inr hk), (max_eq_right hle).trans he⟩
    · obtain ⟨k, hk, he⟩ := (h l).1
      exact ⟨k, (hf l k).mpr (Or.inl hk), (max_eq_left hle).trans he⟩
  · intro k hk
    rcases (hf l k).mp hk with h1 | h1
    · exact le_max_of_le_left ((h l).2 k h1)
    · exact le_max_of_le_right ((h (flip n l)).2 k h1)

theorem flip_facts (i : Fin 5) (l k : Fin 128) : k.val / (2 * 2 ^ i.val) = l.val / (2 * 2 ^ i.val)
    ↔ (k.val / 2 ^ i.val = l.val / 2 ^ i.val ∨ k.val / 2 ^ i.val = (flip (2 ^ i.val) l).val / 2 ^ i.val) := by
  have hl := l.isLt
  have hk := k.isLt
  unfold flip
  fin_cases i <;> simp only [Nat.reducePow, Nat.reduceMul] <;> split <;> simp only [] <;> omega

/-- The five exchanges over the magnitudes. -/
def vblock (h : FVec Ideal S256x128 .f32) : FVec Ideal S256x128 .f32 :=
  vmax 16#32 112#32 (vmax 8#32 120#32 (vmax 4#32 124#32 (vmax 2#32 126#32 (vmax 1#32 127#32 (absf h)))))

theorem bits (i : Fin 5) (l : Fin 128) : IntOp.cmpi .eq (IntOp.andi (BitVec.ofNat 32 l.val) (BitVec.ofNat 32 (2 ^ i.val))) 0#32
    = if l.val / 2 ^ i.val % 2 = 0 then 1#1 else 0#1 := by
  revert i l
  decide +kernel

theorem isMax_step (i : Fin 5) (f : Fin 128 → EReal) (v : FVec Ideal S256x128 .f32) (r : Fin 256)
    (h : IsMax (2 ^ i.val) f (fun l => v (ix2 r l))) :
    IsMax (2 * 2 ^ i.val) f (fun l => vmax (BitVec.ofNat 32 (2 ^ i.val)) (BitVec.ofNat 32 (128 - 2 ^ i.val)) v (ix2 r l)) := by
  have hlt : 2 ^ i.val < 128 := by fin_cases i <;> decide
  have h0 : 0 < 2 ^ i.val := by positivity
  have e : (fun l => vmax (BitVec.ofNat 32 (2 ^ i.val)) (BitVec.ofNat 32 (128 - 2 ^ i.val)) v (ix2 r l))
      = fun l => max (v (ix2 r l)) (v (ix2 r (flip (2 ^ i.val) l))) := by
    funext l
    refine vmax_at _ _ (2 ^ i.val) ?_ ?_ h0 hlt (bits i) v (ix2 r l)
    · rw [BitVec.toNat_ofNat]; exact Nat.mod_eq_of_lt (by omega)
    · rw [BitVec.toNat_ofNat]; exact Nat.mod_eq_of_lt (by omega)
  rw [e]
  exact IsMax.step h (flip_facts i)

theorem ninf : Ideal.ofBits .f32 4286578688#32 = ⊥ := by simp [Ideal.ofBits, Ideal.ieee]

theorem vblock_at (h : FVec Ideal S256x128 .f32) (r : Fin 256) (l : Fin 128) :
    vblock h (ix2 r l) = amax fun k : Fin 32 => h (ix2 r ⟨l.val / 32 * 32 + k.val, by omega⟩) := by
  have hM : IsMax 32 (fun k => absf h (ix2 r k)) (fun l => vblock h (ix2 r l)) := by
    have s0 : IsMax 1 (fun k => absf h (ix2 r k)) (fun k => absf h (ix2 r k)) := by
      intro l
      refine ⟨⟨l, rfl, rfl⟩, fun k hk => ?_⟩
      have : k = l := Fin.ext (by simpa using hk)
      rw [this]
    have s1 := isMax_step 0 _ (absf h) r s0
    have s2 := isMax_step 1 _ _ r s1
    have s3 := isMax_step 2 _ _ r s2
    have s4 := isMax_step 3 _ _ r s3
    exact isMax_step 4 _ _ r s4
  obtain ⟨⟨k, hk, he⟩, hall⟩ := hM l
  refine le_antisymm ?_ ?_
  · refine (le_of_eq he).trans ?_
    refine (Finset.le_fold_max _).mpr (Or.inr ⟨⟨k.val % 32, by omega⟩, Finset.mem_univ _, ?_⟩)
    refine le_of_eq ?_
    show absf h (ix2 r k) = absf h (ix2 r _)
    refine congrArg (fun q => absf h (ix2 r q)) (Fin.ext ?_)
    show k.val = l.val / 32 * 32 + k.val % 32
    omega
  · refine (Finset.fold_max_le _).mpr ⟨?_, fun k _ => ?_⟩
    · rw [ninf]; exact bot_le
    · exact hall ⟨l.val / 32 * 32 + k.val, by omega⟩ (by show (l.val / 32 * 32 + k.val) / 32 = l.val / 32; omega)

/-! ## The exponent -/

/-- The scaled maximum at every lane. -/
def tv (h : FVec Ideal S256x128 .f32) : FVec Ideal S256x128 .f32 :=
  mulf (vblock h) (broadcast S256x128 (Scalar.ofBits .f32 0x3B124925#32 : Ideal .f32))

/-- The biased exponent at every lane. -/
def ev (t : FVec Ideal S256x128 .f32) : IVec S256x128 32 :=
  select (cmpf .oeq t (broadcast S256x128 (Scalar.ofBits .f32 0x00000000#32 : Ideal .f32))) (broadcast S256x128 127#32)
    (minsi (addi (vstep t (vstep t (vstep t (vstep t (vstep t (vstep t (vstep t (vstep t (broadcast S256x128 0#32) 128#32) 64#32) 32#32) 16#32) 8#32) 4#32) 2#32) 1#32)
      (broadcast S256x128 1#32)) (broadcast S256x128 254#32))

/-- The largest magnitude of the block of lane `l`. -/
def hmax (h : FVec Ideal S256x128 .f32) (r : Fin 256) (l : Fin 128) : Ideal .f32 :=
  amax fun k : Fin 32 => h (ix2 r ⟨l.val / 32 * 32 + k.val, by omega⟩)

theorem tv_at (h : FVec Ideal S256x128 .f32) (j : S256x128.Idx) : tv h j = hmax h (j 0) (j 1) * c448 := by
  have hj : j = ix2 (j 0) (j 1) := by funext a; fin_cases a <;> rfl
  have e : vblock h j = hmax h (j 0) (j 1) := (congrArg (vblock h) hj).trans (vblock_at h _ _)
  exact congrArg (fun a : EReal => a * c448) e

theorem ev_biased (t : FVec Ideal S256x128 .f32) (j : S256x128.Idx) : ev t j = biased (t j) := by
  have e : ∀ v : IVec S256x128 32, select (cmpf .oeq t (broadcast S256x128 (Scalar.ofBits .f32 0x00000000#32 : Ideal .f32))) (broadcast S256x128 127#32)
    (minsi (addi v (broadcast S256x128 1#32)) (broadcast S256x128 254#32)) j
      = Scalar.select (Ideal.cmp .oeq (t j) (Ideal.ofBits .f32 0x00000000#32)) 127#32 (IntOp.minsi (v j + 1#32) 254#32) := fun _ => rfl
  refine (e _).trans ?_
  rw [search_at_vec, Ideal.ofBits_zero_f32]

theorem ev_at (h : FVec Ideal S256x128 .f32) (j : S256x128.Idx) :
    ev (tv h) j = expo (hmax h (j 0) (j 1)) c448 + 127#32 := by
  rw [ev_biased, tv_at]
  exact Cert.Pow.biased_eq (Cert.Pow.amax_nonneg _) Cert.Pow.c448_pos

/-! ## The printed payloads are these -/

theorem p540 (a b : FVec Ideal S256x128 .f32) : k0_pay540 (F := Ideal) a b
    = vmax 8#32 120#32 (vmax 4#32 124#32 (vmax 2#32 126#32 (vmax 1#32 127#32 (absf (mulf a b))))) := rfl

theorem p554 (h : FVec Ideal S256x128 .f32) : k0_pay554 (F := Ideal) h
    = vmax 8#32 120#32 (vmax 4#32 124#32 (vmax 2#32 126#32 (vmax 1#32 127#32 (absf h)))) := rfl

theorem p545 (a b : FVec Ideal S256x128 .f32) :
    k0_pay545 (F := Ideal) (k0_pay540 a b) (k0_pay541 a b) (k0_pay542 a b) k0_pay543 k0_pay544 = tv (mulf a b) := rfl

theorem p558 (h : FVec Ideal S256x128 .f32) :
    k0_pay558 (F := Ideal) (k0_pay554 h) (k0_pay555 h) (k0_pay556 h) k0_pay557 = tv h := rfl

theorem p546 (a b c : FVec Ideal S256x128 .f32) (d e : IVec S256x128 32) : k0_pay546 (F := Ideal) a b c d e
    = vstep (k0_pay545 a b c d e) (vstep (k0_pay545 a b c d e) (vstep (k0_pay545 a b c d e) (vstep (k0_pay545 a b c d e) (broadcast S256x128 0#32) 128#32) 64#32) 32#32) 16#32 := by
  unfold k0_pay546
  extract_lets v79 v80 v81 v82 v83 v84 v85 v86 v87 v88 v89 v90 v91 v92 v93 v94 v95 v96 v97 v98 v99 v100 v101 v102 v103 v104
  have e1 : v86 = vstep (k0_pay545 a b c d e) v79 128#32 := rfl
  clear_value v86
  have e2 : v92 = vstep (k0_pay545 a b c d e) v86 64#32 := rfl
  clear_value v92
  have e3 : v98 = vstep (k0_pay545 a b c d e) v92 32#32 := rfl
  clear_value v98
  have e4 : v104 = vstep (k0_pay545 a b c d e) v98 16#32 := rfl
  rw [e4, e3, e2, e1]

theorem p559 (a b c : FVec Ideal S256x128 .f32) (d : IVec S256x128 1) : k0_pay559 (F := Ideal) a b c d
    = vstep (k0_pay558 a b c d) (vstep (k0_pay558 a b c d) (vstep (k0_pay558 a b c d) (vstep (k0_pay558 a b c d) (broadcast S256x128 0#32) 128#32) 64#32) 32#32) 16#32 := by
  unfold k0_pay559
  extract_lets v79 v80 v81 v82 v83 v84 v85 v86 v87 v88 v89 v90 v91 v92 v93 v94 v95 v96 v97 v98 v99 v100 v101 v102 v103 v104
  have e1 : v86 = vstep (k0_pay558 a b c d) v79 128#32 := rfl
  clear_value v86
  have e2 : v92 = vstep (k0_pay558 a b c d) v86 64#32 := rfl
  clear_value v92
  have e3 : v98 = vstep (k0_pay558 a b c d) v92 32#32 := rfl
  clear_value v98
  have e4 : v104 = vstep (k0_pay558 a b c d) v98 16#32 := rfl
  rw [e4, e3, e2, e1]

/-- The last four bits and the choice at zero. -/
theorem p548 (t : FVec Ideal S256x128 .f32) (f : IVec S256x128 32) :
    k0_pay548 (F := Ideal) t f (addi f (broadcast S256x128 8#32)) 23#32
      = select (cmpf .oeq t (broadcast S256x128 (Scalar.ofBits .f32 0x00000000#32 : Ideal .f32))) (broadcast S256x128 127#32)
        (minsi (addi (vstep t (vstep t (vstep t (vstep t f 8#32) 4#32) 2#32) 1#32) (broadcast S256x128 1#32)) (broadcast S256x128 254#32)) := by
  unfold k0_pay548
  extract_lets v118 v119 v120 v121 v122 v123 v124 v125 v126 v127 v128 v129 v130 v131 v132 v133 v134 v135 v136 v137 v138 v139 v140 v141 v142 v143 v144 v145 v146 v147 v148 v149 v150
  have e1 : v124 = vstep t f 8#32 := rfl
  clear_value v124
  have e2 : v130 = vstep t v124 4#32 := rfl
  clear_value v130
  have e3 : v136 = vstep t v130 2#32 := rfl
  clear_value v136
  have e4 : v142 = vstep t v136 1#32 := rfl
  clear_value v142
  rw [← e1, ← e2, ← e3, ← e4]

/-- The same for the other half. -/
theorem p562 (t : FVec Ideal S256x128 .f32) (f : IVec S256x128 32) :
    k0_pay562 (F := Ideal) t f (addi f (broadcast S256x128 8#32)) (broadcast S256x128 23#32)
      = select (cmpf .oeq t (broadcast S256x128 (Scalar.ofBits .f32 0x00000000#32 : Ideal .f32))) (broadcast S256x128 127#32)
        (minsi (addi (vstep t (vstep t (vstep t (vstep t f 8#32) 4#32) 2#32) 1#32) (broadcast S256x128 1#32)) (broadcast S256x128 254#32)) := by
  unfold k0_pay562
  extract_lets v283 v284 v285 v286 v287 v288 v289 v290 v291 v292 v293 v294 v297 v298 v299 v301 v302 v303 v306 v307 v308 v310 v311 v312 v315 cst v316 v317 v319 v320 v321 v322 v323
  have e1 : v288 = vstep t f 8#32 := rfl
  clear_value v288
  have e2 : v297 = vstep t v288 4#32 := rfl
  clear_value v297
  have e3 : v306 = vstep t v297 2#32 := rfl
  clear_value v306
  have e4 : v315 = vstep t v306 1#32 := rfl
  clear_value v315
  rw [← e1, ← e2, ← e3, ← e4]

/-- The exponent of the first half. -/
theorem e_left (a b : FVec Ideal S256x128 .f32) :
    k0_pay548 (F := Ideal) (k0_pay545 (k0_pay540 a b) (k0_pay541 a b) (k0_pay542 a b) k0_pay543 k0_pay544)
      (k0_pay546 (k0_pay540 a b) (k0_pay541 a b) (k0_pay542 a b) k0_pay543 k0_pay544)
      (k0_pay547 (k0_pay540 a b) (k0_pay541 a b) (k0_pay542 a b) k0_pay543 k0_pay544) 23#32 = ev (tv (mulf a b)) := by
  unfold k0_pay547
  refine (p548 _ _).trans ?_
  rw [p546, p545]
  rfl

/-- The exponent of the second half. -/
theorem e_right (h : FVec Ideal S256x128 .f32) :
    k0_pay562 (F := Ideal) (k0_pay558 (k0_pay554 h) (k0_pay555 h) (k0_pay556 h) k0_pay557)
      (k0_pay559 (k0_pay554 h) (k0_pay555 h) (k0_pay556 h) k0_pay557)
      (k0_pay560 (k0_pay554 h) (k0_pay555 h) (k0_pay556 h) k0_pay557) k0_pay561 = ev (tv h) := by
  unfold k0_pay560 k0_pay561
  refine (p562 _ _).trans ?_
  rw [p559, p558]
  rfl

theorem p549 (t : FVec Ideal S256x128 .f32) (f g : IVec S256x128 32) (b : BitVec 32) :
    k0_pay549 (F := Ideal) t f g b = subi (broadcast S256x128 254#32) (k0_pay548 (F := Ideal) t f g b) := rfl

theorem p563 (t : FVec Ideal S256x128 .f32) (f g b : IVec S256x128 32) :
    k0_pay563 (F := Ideal) t f g b = subi (broadcast S256x128 254#32) (k0_pay562 (F := Ideal) t f g b) := rfl

/-! ## Codes, dequantised codes and scales of a half -/

/-- The code at an index. -/
def codeAt (h : FVec Ideal S256x128 .f32) (r : Fin 256) (l : Fin 128) : Ideal .f32 :=
  clip (h (ix2 r l) * Cert.Pow.power (0#32 - expo (hmax h r l) c448))

theorem p550 (h : FVec Ideal S256x128 .f32) (e : IVec S256x128 32) (j : S256x128.Idx) :
    k0_pay550 (F := Ideal) h (subi (broadcast S256x128 254#32) e) 23#32 j = clip (h j * field (254#32 - e j)) := by
  pointwise [k0_pay550, clip]
  rfl

theorem p1_550 (h : FVec Ideal S256x128 .f32) (e : IVec S256x128 32) : k0_pay1 (F := Ideal) h e k0_pay564 = k0_pay550 (F := Ideal) h e 23#32 := rfl

theorem p2_551 (h : FVec Ideal S256x128 .f32) (e f : IVec S256x128 32) : k0_pay2 (F := Ideal) h e f k0_pay564 = k0_pay551 (F := Ideal) h e f 23#32 := rfl

theorem p3_552 (v : FVec Ideal S128x128 .bf16) (e : IVec S256x128 32) : k0_pay3 (F := Ideal) v e = k0_pay552 (F := Ideal) v e := rfl

theorem codes_at (h : FVec Ideal S256x128 .f32) (j : S256x128.Idx) :
    k0_pay550 (F := Ideal) h (subi (broadcast S256x128 254#32) (ev (tv h))) 23#32 j = codeAt h (j 0) (j 1) := by
  rw [p550, ev_at, Cert.Pow.inv_eq]
  have hj : j = ix2 (j 0) (j 1) := by funext a; fin_cases a <;> rfl
  exact congrArg (fun i => clip (h i * _)) hj

theorem p551 (h : FVec Ideal S256x128 .f32) (e f : IVec S256x128 32) (j : S256x128.Idx) :
    k0_pay551 (F := Ideal) h e f 23#32 j = (k0_pay550 (F := Ideal) h f 23#32 j * field (e j) : EReal) := rfl

theorem hq_at (h : FVec Ideal S256x128 .f32) (j : S256x128.Idx) :
    k0_pay551 (F := Ideal) h (ev (tv h)) (subi (broadcast S256x128 254#32) (ev (tv h))) 23#32 j
      = (codeAt h (j 0) (j 1) * Cert.Pow.power (expo (hmax h (j 0) (j 1)) c448 + 127#32 - 127#32) : EReal) := by
  rw [p551, codes_at, ev_at, Cert.Pow.scale_eq]

theorem pick_at (j : S128x128.Idx) : k0_pay536 (F := Ideal) j
    = (((if (j 0).val = 32 * (j 1).val then (1 : ℝ) else 0) : ℝ) : EReal) := by
  have e : k0_pay536 (F := Ideal) j
    = ((((IntOp.cmpi .eq (BitVec.ofNat 32 (j 0).val) (32#32 * BitVec.ofNat 32 (j 1).val)).setWidth 32).toInt : ℝ) : EReal) := by
    pointwise [k0_pay536]
    rfl
  have hf : ∀ a b : Fin 128, ((IntOp.cmpi .eq (BitVec.ofNat 32 a.val) (32#32 * BitVec.ofNat 32 b.val)).setWidth 32).toInt
      = if a.val = 32 * b.val then 1 else 0 := by decide +kernel
  rw [e, hf (j 0) (j 1)]
  split <;> simp

theorem p552 (v : FVec Ideal S128x128 .bf16) (e : IVec S256x128 32) (j : S1x256x4.Idx) :
    k0_pay552 (F := Ideal) v e j = Ideal.fptosi 32 (∑ k : Fin 128, (((e (ix2 (j 1) k)).toInt : ℝ) : EReal) * v (ix2 k ⟨(j 2).val, by
      have h2 : (j 2).val < 4 := (j 2).isLt
      omega⟩)) := by
  pointwise [k0_pay552]
  rfl

theorem fptosi_facts : ∀ n : Fin 254, BitVec.ofInt 32 (max (-2147483648) (min 2147483647 (BitVec.ofNat 32 (n.val + 1)).toInt)) = BitVec.ofNat 32 (n.val + 1) := by
  decide +kernel

/-- A small positive integer survives the conversion to a float and back. -/
theorem back (n : Fin 254) : Ideal.fptosi 32 ((((BitVec.ofNat 32 (n.val + 1)).toInt : ℝ)) : EReal) = BitVec.ofNat 32 (n.val + 1) := by
  refine Eq.trans ?_ (fptosi_facts n)
  unfold Ideal.fptosi
  rw [Ideal.toIntClamped_coe, Int.floor_intCast, Int.ceil_intCast, ite_self]
  rfl

theorem hs_at (h : FVec Ideal S256x128 .f32) (j : S1x256x4.Idx) :
    k0_pay552 (F := Ideal) k0_pay536 (ev (tv h)) j = expo (hmax h (j 1) ⟨32 * (j 2).val, by
      have h2 : (j 2).val < 4 := (j 2).isLt
      omega⟩) c448 + 127#32 := by
  have h2 : (j 2).val < 4 := (j 2).isLt
  rw [p552]
  rw [Finset.sum_eq_single (⟨32 * (j 2).val, by omega⟩ : Fin 128)]
  · rw [pick_at, ev_at]
    obtain ⟨n, hn⟩ := Cert.Pow.expo_cases (hmax h (j 1) ⟨32 * (j 2).val, by omega⟩) c448
    have h1 := (Cert.Pow.expo_facts n).1
    have e : expo (hmax h (j 1) ⟨32 * (j 2).val, by omega⟩) c448 + 127#32 = BitVec.ofNat 32 (n.val + 1) := by rw [hn]; exact h1
    have e' : expo (hmax h ((ix2 (j 1) (⟨32 * (j 2).val, by omega⟩ : Fin 128) : S256x128.Idx) 0) ((ix2 (j 1) (⟨32 * (j 2).val, by omega⟩ : Fin 128) : S256x128.Idx) 1)) c448 + 127#32 = BitVec.ofNat 32 (n.val + 1) := e
    rw [e', e]
    rw [if_pos (show ((ix2 (⟨32 * (j 2).val, by omega⟩ : Fin 128) (⟨(j 2).val, by omega⟩ : Fin 128) : S128x128.Idx) 0).val = 32 * ((ix2 (⟨32 * (j 2).val, by omega⟩ : Fin 128) (⟨(j 2).val, by omega⟩ : Fin 128) : S128x128.Idx) 1).val from rfl)]
    rw [EReal.coe_one, mul_one]
    exact back n
  · intro b _ hb
    rw [pick_at, if_neg, EReal.coe_zero, mul_zero]
    intro hc
    exact hb (Fin.ext hc)
  · intro hh
    exact absurd (Finset.mem_univ _) hh

/-! ## The gated values -/

/-- The gated value of a gate and an up product. -/
def gated (g u : EReal) : EReal := g * Ideal.logistic g * u

theorem p539 (g u : FVec Ideal S1x256x128 .f32) (j : S256x128.Idx) :
    mulf (k0_pay537 (F := Ideal) g) (k0_pay538 (F := Ideal) u) j = gated (g (ix3 0 (j 0) (j 1))) (u (ix3 0 (j 0) (j 1))) := by
  have e : ∀ v : FVec Ideal S1x256x128 .f32, shapeCast S256x128 v shapeCasts_S1x256x128_S256x128 j = v (ix3 0 (j 0) (j 1)) := by
    intro v; pointwise
  have h : mulf (k0_pay537 (F := Ideal) g) (k0_pay538 (F := Ideal) u) j
      = (shapeCast S256x128 g shapeCasts_S1x256x128_S256x128 j
        * Ideal.div (Ideal.ofBits .f32 0x3F800000#32) (Ideal.ofBits .f32 0x3F800000#32 + Ideal.exp (Ideal.ofBits .f32 0x00000000#32 - shapeCast S256x128 g shapeCasts_S1x256x128_S256x128 j))
        * shapeCast S256x128 u shapeCasts_S1x256x128_S256x128 j : EReal) := rfl
  rw [h, e, e, Ideal.ofBits_one_f32, Ideal.ofBits_zero_f32, zero_sub]
  rfl

theorem p553 (g u : FVec Ideal S1x256x128 .f32) : k0_pay553 (F := Ideal) g u = mulf (k0_pay537 (F := Ideal) g) (k0_pay538 (F := Ideal) u) := rfl

end Cert.GateUpIdeal.Gen

end
-- ==== Proof.GateUpOut.lean ====
/- What a grid point of `gate_up` stores: two halves of a tile of codes, of scales and of dequantised codes, read at an
   index of the tile, from the gated values `H` of the tile. -/
module

public import proofs.«01_k».proof.Proof.GateUpEpi
public import Idealize.ShloMosaic.Lib.Pipeline.ValueKit

@[expose] public section

set_option maxRecDepth 16384

noncomputable section

open Idealize.ShloMosaic Idealize.ShloMosaic.TcCoe Idealize.SL.Sem
open Cert.Pow (clip amax c448 expo power)

namespace Cert.GateUpIdeal.Gen

/-- The largest magnitude of the block of 32 that lane `l` of a row of the tile lies in. -/
def hx (H : Fin 256 → Fin 256 → Ideal .f32) (r l : Fin 256) : Ideal .f32 :=
  amax fun k : Fin 32 => H r ⟨l.val / 32 * 32 + k.val, by omega⟩

/-- The code. -/
def codeH (H : Fin 256 → Fin 256 → Ideal .f32) (r l : Fin 256) : Ideal .f32 :=
  clip (H r l * power (0#32 - expo (hx H r l) c448))

/-- The biased exponent. -/
def scaleH (H : Fin 256 → Fin 256 → Ideal .f32) (r l : Fin 256) : BitVec 32 := expo (hx H r l) c448 + 127#32

/-- The dequantised code. -/
def deqH (H : Fin 256 → Fin 256 → Ideal .f32) (r l : Fin 256) : Ideal .f32 :=
  (codeH H r l * power (scaleH H r l - 127#32) : EReal)

/-- The half `b` of the tile. -/
def half (H : Fin 256 → Fin 256 → Ideal .f32) (b : Fin 2) : FVec Ideal S256x128 .f32 := fun j =>
  H (j 0) ⟨128 * b.val + (j 1).val, by
    have h1 : (j 1).val < 128 := (j 1).isLt
    omega⟩

theorem hmax_half (H : Fin 256 → Fin 256 → Ideal .f32) (b : Fin 2) (r : Fin 256) (l : Fin 128) :
    hmax (half H b) r l = hx H r ⟨128 * b.val + l.val, by omega⟩ := by
  refine congrArg amax (funext fun k => ?_)
  refine congrArg (H r) (Fin.ext ?_)
  show 128 * b.val + (l.val / 32 * 32 + k.val) = (128 * b.val + l.val) / 32 * 32 + k.val
  omega

theorem codeAt_half (H : Fin 256 → Fin 256 → Ideal .f32) (b : Fin 2) (r : Fin 256) (l : Fin 128) :
    codeAt (half H b) r l = codeH H r ⟨128 * b.val + l.val, by omega⟩ := by
  unfold codeAt
  rw [hmax_half]
  rfl

/-- The pieces of codes, from the loaded tiles of products. -/
def L6of (g0 u0 g1 u1 : FVec Ideal S1x256x128 .f32) : List (View.Piece (Elt Ideal) S256x256 .fp8e4m3) :=
  [⟨Rect.unit ![0, 128] S256x128.size inb_S256x256_S256x128_0_128, k0_pay1 (F := Ideal) (k0_pay553 (F := Ideal) g1 u1)
      (k0_pay563 (k0_pay558 (k0_pay554 (k0_pay553 (F := Ideal) g1 u1)) (k0_pay555 (k0_pay553 (F := Ideal) g1 u1)) (k0_pay556 (k0_pay553 (F := Ideal) g1 u1)) k0_pay557)
        (k0_pay559 (k0_pay554 (k0_pay553 (F := Ideal) g1 u1)) (k0_pay555 (k0_pay553 (F := Ideal) g1 u1)) (k0_pay556 (k0_pay553 (F := Ideal) g1 u1)) k0_pay557)
        (k0_pay560 (k0_pay554 (k0_pay553 (F := Ideal) g1 u1)) (k0_pay555 (k0_pay553 (F := Ideal) g1 u1)) (k0_pay556 (k0_pay553 (F := Ideal) g1 u1)) k0_pay557) k0_pay561) k0_pay564⟩,
   ⟨Rect.unit ![0, 0] S256x128.size inb_S256x256_S256x128_0_0, k0_pay550 (F := Ideal) (k0_pay539 (k0_pay537 (F := Ideal) g0) (k0_pay538 (F := Ideal) u0))
      (k0_pay549 (k0_pay545 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay546 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay547 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544) 23#32) 23#32⟩]

/-- The pieces of scales. -/
def L7of (g0 u0 g1 u1 : FVec Ideal S1x256x128 .f32) : List (View.Piece (Elt Ideal) S1x256x8 .i32) :=
  [⟨Rect.unit ![0, 0, 4] S1x256x4.size inb_S1x256x8_S1x256x4_0_0_4, k0_pay3 (F := Ideal) k0_pay536
      (k0_pay562 (k0_pay558 (k0_pay554 (k0_pay553 (F := Ideal) g1 u1)) (k0_pay555 (k0_pay553 (F := Ideal) g1 u1)) (k0_pay556 (k0_pay553 (F := Ideal) g1 u1)) k0_pay557)
        (k0_pay559 (k0_pay554 (k0_pay553 (F := Ideal) g1 u1)) (k0_pay555 (k0_pay553 (F := Ideal) g1 u1)) (k0_pay556 (k0_pay553 (F := Ideal) g1 u1)) k0_pay557)
        (k0_pay560 (k0_pay554 (k0_pay553 (F := Ideal) g1 u1)) (k0_pay555 (k0_pay553 (F := Ideal) g1 u1)) (k0_pay556 (k0_pay553 (F := Ideal) g1 u1)) k0_pay557) k0_pay561)⟩,
   ⟨Rect.unit ![0, 0, 0] S1x256x4.size inb_S1x256x8_S1x256x4_0_0_0, k0_pay552 (F := Ideal) k0_pay536
      (k0_pay548 (k0_pay545 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay546 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay547 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544) 23#32)⟩]

/-- The pieces of dequantised codes. -/
def L8of (g0 u0 g1 u1 : FVec Ideal S1x256x128 .f32) : List (View.Piece (Elt Ideal) S256x256 .bf16) :=
  [⟨Rect.unit ![0, 128] S256x128.size inb_S256x256_S256x128_0_128, k0_pay2 (F := Ideal) (k0_pay553 (F := Ideal) g1 u1)
      (k0_pay562 (k0_pay558 (k0_pay554 (k0_pay553 (F := Ideal) g1 u1)) (k0_pay555 (k0_pay553 (F := Ideal) g1 u1)) (k0_pay556 (k0_pay553 (F := Ideal) g1 u1)) k0_pay557)
        (k0_pay559 (k0_pay554 (k0_pay553 (F := Ideal) g1 u1)) (k0_pay555 (k0_pay553 (F := Ideal) g1 u1)) (k0_pay556 (k0_pay553 (F := Ideal) g1 u1)) k0_pay557)
        (k0_pay560 (k0_pay554 (k0_pay553 (F := Ideal) g1 u1)) (k0_pay555 (k0_pay553 (F := Ideal) g1 u1)) (k0_pay556 (k0_pay553 (F := Ideal) g1 u1)) k0_pay557) k0_pay561)
      (k0_pay563 (k0_pay558 (k0_pay554 (k0_pay553 (F := Ideal) g1 u1)) (k0_pay555 (k0_pay553 (F := Ideal) g1 u1)) (k0_pay556 (k0_pay553 (F := Ideal) g1 u1)) k0_pay557)
        (k0_pay559 (k0_pay554 (k0_pay553 (F := Ideal) g1 u1)) (k0_pay555 (k0_pay553 (F := Ideal) g1 u1)) (k0_pay556 (k0_pay553 (F := Ideal) g1 u1)) k0_pay557)
        (k0_pay560 (k0_pay554 (k0_pay553 (F := Ideal) g1 u1)) (k0_pay555 (k0_pay553 (F := Ideal) g1 u1)) (k0_pay556 (k0_pay553 (F := Ideal) g1 u1)) k0_pay557) k0_pay561) k0_pay564⟩,
   ⟨Rect.unit ![0, 0] S256x128.size inb_S256x256_S256x128_0_0, k0_pay551 (F := Ideal) (k0_pay539 (k0_pay537 (F := Ideal) g0) (k0_pay538 (F := Ideal) u0))
      (k0_pay548 (k0_pay545 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay546 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay547 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544) 23#32)
      (k0_pay549 (k0_pay545 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay546 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544)
        (k0_pay547 (k0_pay540 (k0_pay537 (F := Ideal) g0) (k0_pay538 (F := Ideal) u0)) (k0_pay541 (k0_pay537 (F := Ideal) g0) (k0_pay538 (F := Ideal) u0)) (k0_pay542 (k0_pay537 (F := Ideal) g0) (k0_pay538 (F := Ideal) u0)) k0_pay543 k0_pay544) 23#32) 23#32⟩]

/-- The loaded tiles hold the gate and up products of the halves, whose gated values are `H`. -/
structure Tiles (H : Fin 256 → Fin 256 → Ideal .f32) (g0 u0 g1 u1 : FVec Ideal S1x256x128 .f32) : Prop where
  left : mulf (k0_pay537 (F := Ideal) g0) (k0_pay538 (F := Ideal) u0) = half H 0
  right : k0_pay553 (F := Ideal) g1 u1 = half H 1

variable {H : Fin 256 → Fin 256 → Ideal .f32} {g0 u0 g1 u1 : FVec Ideal S1x256x128 .f32}

theorem L6of_eq (h : Tiles H g0 u0 g1 u1) : L6of g0 u0 g1 u1 =
    [⟨Rect.unit ![0, 128] S256x128.size inb_S256x256_S256x128_0_128, k0_pay550 (F := Ideal) (half H 1) (subi (broadcast S256x128 254#32) (ev (tv (half H 1)))) 23#32⟩,
     ⟨Rect.unit ![0, 0] S256x128.size inb_S256x256_S256x128_0_0, k0_pay550 (F := Ideal) (half H 0) (subi (broadcast S256x128 254#32) (ev (tv (half H 0)))) 23#32⟩] := by
  unfold L6of
  rw [p563, e_right, p549, e_left, p1_550, h.right]
  have e : k0_pay539 (F := Ideal) (k0_pay537 (F := Ideal) g0) (k0_pay538 (F := Ideal) u0) = half H 0 := h.left
  rw [e, h.left]

theorem L7of_eq (h : Tiles H g0 u0 g1 u1) : L7of g0 u0 g1 u1 =
    [⟨Rect.unit ![0, 0, 4] S1x256x4.size inb_S1x256x8_S1x256x4_0_0_4, k0_pay552 (F := Ideal) k0_pay536 (ev (tv (half H 1)))⟩,
     ⟨Rect.unit ![0, 0, 0] S1x256x4.size inb_S1x256x8_S1x256x4_0_0_0, k0_pay552 (F := Ideal) k0_pay536 (ev (tv (half H 0)))⟩] := by
  unfold L7of
  rw [e_right, e_left, p3_552, h.right, h.left]

theorem L8of_eq (h : Tiles H g0 u0 g1 u1) : L8of g0 u0 g1 u1 =
    [⟨Rect.unit ![0, 128] S256x128.size inb_S256x256_S256x128_0_128, k0_pay551 (F := Ideal) (half H 1) (ev (tv (half H 1))) (subi (broadcast S256x128 254#32) (ev (tv (half H 1)))) 23#32⟩,
     ⟨Rect.unit ![0, 0] S256x128.size inb_S256x256_S256x128_0_0, k0_pay551 (F := Ideal) (half H 0) (ev (tv (half H 0))) (subi (broadcast S256x128 254#32) (ev (tv (half H 0)))) 23#32⟩] := by
  unfold L8of
  rw [p563, e_right, p549, e_left, p2_551, h.right]
  have e : k0_pay539 (F := Ideal) (k0_pay537 (F := Ideal) g0) (k0_pay538 (F := Ideal) u0) = half H 0 := h.left
  rw [e, h.left]

/-- Two half tiles that agree with one function read as that function. -/
theorem halves {η : EltTy} (L R : Vec Ideal S256x128 η) (f : Fin 256 → Fin 256 → Elt Ideal η)
    (hR : ∀ j : S256x128.Idx, R j = f (j 0) ⟨128 * (1 : Fin 2).val + (j 1).val, by have h1 : (j 1).val < 128 := (j 1).isLt; show 128 * 1 + _ < 256; omega⟩)
    (hL : ∀ j : S256x128.Idx, L j = f (j 0) ⟨128 * (0 : Fin 2).val + (j 1).val, by have h1 : (j 1).val < 128 := (j 1).isLt; show 128 * 0 + _ < 256; omega⟩)
    (y : S256x256.Idx) :
    View.canon [(⟨Rect.unit ![0, 128] S256x128.size inb_S256x256_S256x128_0_128, R⟩ : View.Piece (Elt Ideal) S256x256 η),
      ⟨Rect.unit ![0, 0] S256x128.size inb_S256x256_S256x128_0_0, L⟩] y = f (y 0) (y 1) := by
  have h0 : (y 0).val < 256 := (y 0).isLt
  have h1 : (y 1).val < 256 := (y 1).isLt
  refine View.canon_eq_of_allAt _ _ _ ?_ ?_
  · by_cases hc : (y 1).val < 128
    · refine ⟨_, List.mem_cons_of_mem _ List.mem_cons_self, ?_⟩
      show y ∈ (Rect.unit (s := S256x256) ![0, 0] S256x128.size inb_S256x256_S256x128_0_0).set
      rw [Rect.mem_set_unit]
      intro a
      fin_cases a <;> simp <;> omega
    · refine ⟨_, List.mem_cons_self, ?_⟩
      show y ∈ (Rect.unit (s := S256x256) ![0, 128] S256x128.size inb_S256x256_S256x128_0_128).set
      rw [Rect.mem_set_unit]
      intro a
      fin_cases a <;> simp <;> omega
  · refine View.allAt_cons_unit _ _ _ _ _ ?_ (View.allAt_cons_unit _ _ _ _ _ ?_ (View.allAt_nil _ _))
    · intro x hx
      have e0 : (y 0).val = 0 + (x 0).val := hx 0
      have e1 : (y 1).val = 128 + (x 1).val := hx 1
      refine (hR x).trans (congrArg₂ f (Fin.ext (by omega)) (Fin.ext ?_))
      show 128 * 1 + (x 1).val = (y 1).val
      omega
    · intro x hx
      have e0 : (y 0).val = 0 + (x 0).val := hx 0
      have e1 : (y 1).val = 0 + (x 1).val := hx 1
      refine (hL x).trans (congrArg₂ f (Fin.ext (by omega)) (Fin.ext ?_))
      show 128 * 0 + (x 1).val = (y 1).val
      omega

theorem L6of_at (h : Tiles H g0 u0 g1 u1) (y : S256x256.Idx) : View.canon (L6of g0 u0 g1 u1) y = codeH H (y 0) (y 1) := by
  rw [L6of_eq h]
  exact halves (η := .fp8e4m3) _ _ (codeH H) (fun j => (codes_at _ j).trans (codeAt_half H 1 _ _)) (fun j => (codes_at _ j).trans (codeAt_half H 0 _ _)) y

theorem deq_half (b : Fin 2) (j : S256x128.Idx) :
    k0_pay551 (F := Ideal) (half H b) (ev (tv (half H b))) (subi (broadcast S256x128 254#32) (ev (tv (half H b)))) 23#32 j
      = deqH H (j 0) ⟨128 * b.val + (j 1).val, by have h1 : (j 1).val < 128 := (j 1).isLt; omega⟩ := by
  exact (hq_at _ j).trans (congrArg₂ (fun (a b : Ideal .f32) => (a * power (expo b c448 + 127#32 - 127#32) : EReal)) (codeAt_half H b _ _) (hmax_half H b _ _))

theorem L8of_at (h : Tiles H g0 u0 g1 u1) (y : S256x256.Idx) : View.canon (L8of g0 u0 g1 u1) y = deqH H (y 0) (y 1) := by
  rw [L8of_eq h]
  exact halves (η := .bf16) _ _ (deqH H) (deq_half 1) (deq_half 0) y

theorem L7of_at (h : Tiles H g0 u0 g1 u1) (y : S1x256x8.Idx) : View.canon (L7of g0 u0 g1 u1) y
    = scaleH H (y 1) ⟨32 * (y 2).val, by have h2 : (y 2).val < 8 := (y 2).isLt; omega⟩ := by
  have l0 : (y 0).val < 1 := (y 0).isLt
  have l1 : (y 1).val < 256 := (y 1).isLt
  have l2 : (y 2).val < 8 := (y 2).isLt
  rw [L7of_eq h]
  refine View.canon_eq_of_allAt _ _ _ ?_ ?_
  · by_cases hc : (y 2).val < 4
    · refine ⟨_, List.mem_cons_of_mem _ List.mem_cons_self, ?_⟩
      show y ∈ (Rect.unit (s := S1x256x8) ![0, 0, 0] S1x256x4.size inb_S1x256x8_S1x256x4_0_0_0).set
      rw [Rect.mem_set_unit]
      intro a
      fin_cases a <;> simp <;> omega
    · refine ⟨_, List.mem_cons_self, ?_⟩
      show y ∈ (Rect.unit (s := S1x256x8) ![0, 0, 4] S1x256x4.size inb_S1x256x8_S1x256x4_0_0_4).set
      rw [Rect.mem_set_unit]
      intro a
      fin_cases a <;> simp <;> omega
  · refine View.allAt_cons_unit _ _ _ _ _ ?_ (View.allAt_cons_unit _ _ _ _ _ ?_ (View.allAt_nil _ _))
    · intro x hx
      have e1 : (y 1).val = 0 + (x 1).val := hx 1
      have e2 : (y 2).val = 4 + (x 2).val := hx 2
      refine (hs_at _ x).trans ((congrArg (fun a => expo a c448 + 127#32) (hmax_half H 1 _ _)).trans ?_)
      refine congrArg₂ (fun a b => scaleH H a b) (Fin.ext (by omega)) (Fin.ext ?_)
      show 128 * 1 + 32 * (x 2).val = 32 * (y 2).val
      omega
    · intro x hx
      have e1 : (y 1).val = 0 + (x 1).val := hx 1
      have e2 : (y 2).val = 0 + (x 2).val := hx 2
      refine (hs_at _ x).trans ((congrArg (fun a => expo a c448 + 127#32) (hmax_half H 0 _ _)).trans ?_)
      refine congrArg₂ (fun a b => scaleH H a b) (Fin.ext (by omega)) (Fin.ext ?_)
      show 128 * 0 + 32 * (x 2).val = 32 * (y 2).val
      omega

end Cert.GateUpIdeal.Gen

end
-- ==== Proof.GateUpTrip.lean ====
/- One trip of the loop of `gate_up`: each accumulator is the sum over the 64 groups of the masked product scaled by the
   two scales of the group. -/
module

public import proofs.«01_k».proof.Proof.Gen.GateUpIdeal.Loops
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem

namespace Cert.GateUpIdeal.Gen

/-- What group `g` adds to the entry of row `r` and column `l` of the tile. -/
def grp (A : Vec Ideal S8x8x8x32x256 .fp8e4m3) (W : Vec Ideal S2048x256 .fp8e4m3) (SA : Vec Ideal S64x256x128 .f32)
    (SW : FVec Ideal S64x256 .f32) (r l : Fin 256) (g : Fin 64) : EReal :=
  (∑ n : Fin 256, (A (ix5 ⟨r.val / 32, by omega⟩ ⟨g.val / 8, by omega⟩ ⟨g.val % 8, by omega⟩ ⟨r.val % 32, by omega⟩ n) : EReal)
      * W (ix2 ⟨g.val / 8 * 256 + n.val, by omega⟩ l))
    * SA (ix3 g r ⟨l.val % 128, by omega⟩) * SW (ix2 g l)

theorem lhs_at (v : FVec Ideal S1x1x8x32x256 .fp8e4m3) (a n : Fin 256) :
    shapeCast S256x256 (shapeCast S8x32x256 v shapeCasts_S1x1x8x32x256_S8x32x256) shapeCasts_S8x32x256_S256x256 (ix2 a n)
      = v (ix5 0 0 ⟨a.val / 32, by omega⟩ ⟨a.val % 32, by omega⟩ n) := by
  pointwise

theorem dot_at (x w : FVec Ideal S256x256 .fp8e4m3) (a b : Fin 256) :
    matmul dot_S256x256_S256x256_S256x256_1_0_0_1_n_n none x w (constant (F := Ideal) S256x256 .f32 0x00000000#32) (ix2 a b)
      = ∑ n : Fin 256, x (ix2 a n) * w (ix2 n b) := by
  pointwise

theorem cast_at (v : FVec Ideal S1x32x128 .f32) (j : S32x128.Idx) :
    shapeCast S32x128 v shapeCasts_S1x32x128_S32x128 j = v (ix3 0 (j 0) (j 1)) := by
  pointwise

/-- One added term of the loop's body is the term of its group. -/
theorem term_at (A : Vec Ideal S8x8x8x32x256 .fp8e4m3) (W : Vec Ideal S2048x256 .fp8e4m3) (SA : Vec Ideal S64x256x128 .f32)
    (SW : FVec Ideal S64x256 .f32) (k : ℕ) (g : Fin 64) (j : S32x128.Idx) (r l : Fin 256)
    {o11 : Fin 5 → ℕ} {o4 : Fin 2 → ℕ} {o12 : Fin 3 → ℕ} {s1 s2 : Fin 2 → ℕ}
    (b11 : ∀ a, o11 a + S1x1x8x32x256.size a ≤ S8x8x8x32x256.size a) (b4 : ∀ a, o4 a + S256x256.size a ≤ S2048x256.size a)
    (b12 : ∀ a, o12 a + S1x32x128.size a ≤ S64x256x128.size a) (c1 : S256x256.Slices s1 S32x128) (c2 : S64x256.Slices s2 S1x128)
    (o : ℕ) (hr : r.val = 32 * k + (j 0).val) (hl : l.val = o + (j 1).val) (ho : o % 128 = 0)
    (h11 : o11 = ![k, g.val / 8, 0, 0, 0]) (h4 : o4 = ![g.val / 8 * 256, 0]) (h12 : o12 = ![g.val, 32 * k, 0])
    (h1 : s1 = ![g.val % 8 * 32, o]) (h2 : s2 = ![g.val, o]) :
    mulf (mulf (extractStridedSlice S32x128 s1 (matmul (φ₁ := .fp8e4m3) (φ₂ := .fp8e4m3) dot_S256x256_S256x256_S256x256_1_0_0_1_n_n none
        (shapeCast S256x256 (shapeCast S8x32x256 (View.ld A (Rect.unit o11 S1x1x8x32x256.size b11))
          shapeCasts_S1x1x8x32x256_S8x32x256) shapeCasts_S8x32x256_S256x256)
        (View.ld W (Rect.unit o4 S256x256.size b4)) (constant (F := Ideal) S256x256 .f32 0x00000000#32)) c1)
      (shapeCast S32x128 (View.ld SA (Rect.unit o12 S1x32x128.size b12)) shapeCasts_S1x32x128_S32x128))
      (broadcastTo S32x128 (extractStridedSlice S1x128 s2 SW c2) broadcasts_S1x128_S32x128) j = grp A W SA SW r l g := by
  subst h11 h4 h12 h1 h2
  have hj0 : (j 0).val < 32 := (j 0).isLt
  have hj1 : (j 1).val < 128 := (j 1).isLt
  have e1 : ∀ D : FVec Ideal S256x256 .f32, extractStridedSlice S32x128 ![g.val % 8 * 32, o] D c1 j
      = D (ix2 ⟨g.val % 8 * 32 + (j 0).val, by omega⟩ l) := by
    intro D
    refine congrArg D ?_
    funext a
    match a with
    | ⟨0, _⟩ => exact Fin.ext rfl
    | ⟨1, _⟩ => exact Fin.ext hl.symm
  have e2 : broadcastTo S32x128 (extractStridedSlice S1x128 ![g.val, o] SW c2) broadcasts_S1x128_S32x128 j = SW (ix2 g l) := by
    refine congrArg SW ?_
    funext a
    match a with
    | ⟨0, _⟩ => exact Fin.ext rfl
    | ⟨1, _⟩ => exact Fin.ext hl.symm
  refine congrArg₂ (fun a b : EReal => a * b) (congrArg₂ (fun a b : EReal => a * b) ((e1 _).trans ?_) ?_) e2
  · rw [dot_at]
    refine Finset.sum_congr rfl fun n _ => ?_
    rw [lhs_at]
    refine congrArg₂ (fun a b : EReal => a * b) (View.ld_unit_apply_of A _ _ _ _ _ ?_) (View.ld_unit_apply_of W _ _ _ _ _ ?_)
    · intro a; fin_cases a <;> simp <;> omega
    · intro a; fin_cases a <;> simp
  · rw [cast_at]
    refine View.ld_unit_apply_of SA _ _ _ _ _ ?_
    intro a; fin_cases a <;> simp <;> omega

/-- `grp` as a function of the naturals, for sums over a range. -/
def grpN (A : Vec Ideal S8x8x8x32x256 .fp8e4m3) (W : Vec Ideal S2048x256 .fp8e4m3) (SA : Vec Ideal S64x256x128 .f32)
    (SW : FVec Ideal S64x256 .f32) (r l : Fin 256) (n : ℕ) : EReal :=
  if h : n < 64 then grp A W SA SW r l ⟨n, h⟩ else 0

theorem sum_grpN (A : Vec Ideal S8x8x8x32x256 .fp8e4m3) (W : Vec Ideal S2048x256 .fp8e4m3) (SA : Vec Ideal S64x256x128 .f32)
    (SW : FVec Ideal S64x256 .f32) (r l : Fin 256) :
    ∑ g : Fin 64, grp A W SA SW r l g = ∑ n ∈ Finset.range 64, grpN A W SA SW r l n := by
  rw [Finset.sum_range]
  refine Finset.sum_congr rfl fun g _ => ?_
  rw [grpN, dif_pos g.isLt]

/-- `term_at` for a group named by a natural number. -/
theorem termN (A : Vec Ideal S8x8x8x32x256 .fp8e4m3) (W : Vec Ideal S2048x256 .fp8e4m3) (SA : Vec Ideal S64x256x128 .f32)
    (SW : FVec Ideal S64x256 .f32) (k n : ℕ) (j : S32x128.Idx) (r l : Fin 256)
    {o11 : Fin 5 → ℕ} {o4 : Fin 2 → ℕ} {o12 : Fin 3 → ℕ} {s1 s2 : Fin 2 → ℕ}
    (b11 : ∀ a, o11 a + S1x1x8x32x256.size a ≤ S8x8x8x32x256.size a) (b4 : ∀ a, o4 a + S256x256.size a ≤ S2048x256.size a)
    (b12 : ∀ a, o12 a + S1x32x128.size a ≤ S64x256x128.size a) (c1 : S256x256.Slices s1 S32x128) (c2 : S64x256.Slices s2 S1x128)
    (o : ℕ) (hr : r.val = 32 * k + (j 0).val) (hl : l.val = o + (j 1).val) (ho : o % 128 = 0) (hn : n < 64)
    (h11 : o11 = ![k, n / 8, 0, 0, 0]) (h4 : o4 = ![n / 8 * 256, 0]) (h12 : o12 = ![n, 32 * k, 0])
    (h1 : s1 = ![n % 8 * 32, o]) (h2 : s2 = ![n, o]) :
    mulf (mulf (extractStridedSlice S32x128 s1 (matmul (φ₁ := .fp8e4m3) (φ₂ := .fp8e4m3) dot_S256x256_S256x256_S256x256_1_0_0_1_n_n none
        (shapeCast S256x256 (shapeCast S8x32x256 (View.ld A (Rect.unit o11 S1x1x8x32x256.size b11))
          shapeCasts_S1x1x8x32x256_S8x32x256) shapeCasts_S8x32x256_S256x256)
        (View.ld W (Rect.unit o4 S256x256.size b4)) (constant (F := Ideal) S256x256 .f32 0x00000000#32)) c1)
      (shapeCast S32x128 (View.ld SA (Rect.unit o12 S1x32x128.size b12)) shapeCasts_S1x32x128_S32x128))
      (broadcastTo S32x128 (extractStridedSlice S1x128 s2 SW c2) broadcasts_S1x128_S32x128) j = grpN A W SA SW r l n :=
  (term_at A W SA SW k ⟨n, hn⟩ j r l b11 b4 b12 c1 c2 o hr hl ho h11 h4 h12 h1 h2).trans
    (by rw [grpN, dif_pos hn])

/-- The accumulator of the gate product at columns 0 to 127 after the 64 groups. -/
theorem acc_gate_0 (arg4 : Memref sig .tc .vmem S2048x256 .fp8e4m3) (arg11 : Memref sig .tc .vmem S8x8x8x32x256 .fp8e4m3)
    (arg12 : Memref sig .tc .vmem S64x256x128 .f32) (v3 : Vec Ideal S64x256 .i32)
    (X4 : BufTy.Contents (Elt Ideal) arg4.view.ty) (X11 : BufTy.Contents (Elt Ideal) arg11.view.ty)
    (X12 : BufTy.Contents (Elt Ideal) arg12.view.ty) (k : Fin k0_t1_loop.trips) (j : S32x128.Idx) (r l : Fin 256)
    (hr : r.val = 32 * k.val + (j 0).val) (hl : l.val = 0 + (j 1).val) :
    trip_k0_t1.sl.r_162 (F := Ideal) arg4 arg11 arg12 v3 X4 X11 X12 k j
      = ∑ g : Fin 64, grp (arg11.view.read (Elt Ideal) X11) (arg4.view.read (Elt Ideal) X4) (arg12.view.read (Elt Ideal) X12)
          (k0_pay531 v3) r l g := by
  rw [sum_grpN]
  dsimp only [
    trip_k0_t1.sl.r_1, trip_k0_t1.sl.r_2, trip_k0_t1.sl.r_4, trip_k0_t1.sl.r_6, trip_k0_t1.sl.r_17,
    trip_k0_t1.sl.r_18, trip_k0_t1.sl.r_21, trip_k0_t1.sl.r_23, trip_k0_t1.sl.r_25, trip_k0_t1.sl.r_34,
    trip_k0_t1.sl.r_36, trip_k0_t1.sl.r_38, trip_k0_t1.sl.r_41, trip_k0_t1.sl.r_43, trip_k0_t1.sl.r_56,
    trip_k0_t1.sl.r_59, trip_k0_t1.sl.r_61, trip_k0_t1.sl.r_64, trip_k0_t1.sl.r_76, trip_k0_t1.sl.r_78,
    trip_k0_t1.sl.r_79, trip_k0_t1.sl.r_82, trip_k0_t1.sl.r_84, trip_k0_t1.sl.r_87, trip_k0_t1.sl.r_101,
    trip_k0_t1.sl.r_102, trip_k0_t1.sl.r_105, trip_k0_t1.sl.r_106, trip_k0_t1.sl.r_109, trip_k0_t1.sl.r_110,
    trip_k0_t1.sl.r_127, trip_k0_t1.sl.r_128, trip_k0_t1.sl.r_130, trip_k0_t1.sl.r_131, trip_k0_t1.sl.r_134,
    trip_k0_t1.sl.r_135, trip_k0_t1.sl.r_138, trip_k0_t1.sl.r_153, trip_k0_t1.sl.r_154, trip_k0_t1.sl.r_156,
    trip_k0_t1.sl.r_157, trip_k0_t1.sl.r_160, trip_k0_t1.sl.r_161, trip_k0_t1.sl.r_162, k0_pay241, k0_pay242,
    k0_pay243, k0_pay244, k0_pay245, k0_pay247, k0_pay248, k0_pay249, k0_pay250, k0_pay252, k0_pay253, k0_pay254,
    k0_pay255, k0_pay272, k0_pay273, k0_pay274, k0_pay275, k0_pay278, k0_pay279, k0_pay280, k0_pay281, k0_pay283,
    k0_pay284, k0_pay285, k0_pay286, k0_pay288, k0_pay289, k0_pay306, k0_pay307, k0_pay308, k0_pay309, k0_pay310,
    k0_pay312, k0_pay313, k0_pay316, k0_pay317, k0_pay318, k0_pay319, k0_pay321, k0_pay322, k0_pay323, k0_pay343,
    k0_pay344, k0_pay345, k0_pay347, k0_pay348, k0_pay349, k0_pay350, k0_pay352, k0_pay353, k0_pay356, k0_pay357,
    k0_pay358, k0_pay359, k0_pay378, k0_pay379, k0_pay380, k0_pay381, k0_pay382, k0_pay383, k0_pay384, k0_pay386,
    k0_pay387, k0_pay388, k0_pay389, k0_pay391, k0_pay392, k0_pay395, k0_pay396, k0_pay416, k0_pay417, k0_pay418,
    k0_pay419, k0_pay420, k0_pay422, k0_pay423, k0_pay424, k0_pay425, k0_pay426, k0_pay428, k0_pay429, k0_pay430,
    k0_pay431, k0_pay432, k0_pay454, k0_pay455, k0_pay456, k0_pay457, k0_pay459, k0_pay460, k0_pay461, k0_pay462,
    k0_pay464, k0_pay465, k0_pay466, k0_pay467, k0_pay468, k0_pay470, k0_pay471, k0_pay491, k0_pay492, k0_pay493,
    k0_pay494, k0_pay495, k0_pay496, k0_pay498, k0_pay499, k0_pay500, k0_pay501, k0_pay503, k0_pay504, k0_pay505,
    k0_pay506, k0_pay507]
  simp only [View.readAt_eq_ld]
  simp only [Finset.sum_range_succ, Finset.sum_range_zero]
  iterate 64
    refine congrArg₂ (fun a b : EReal => a + b) ?_ (termN _ _ _ _ k.val _ j r l _ _ _ _ _ 0 hr hl (by decide) (by decide)
      (by exact ClosedOff.eq) (by rfl) (by exact ClosedOff.eq) (by rfl) (by rfl))
  exact Ideal.ofBits_zero_f32

/-- The accumulator of the gate product at columns 128 to 255 after the 64 groups. -/
theorem acc_gate_128 (arg4 : Memref sig .tc .vmem S2048x256 .fp8e4m3) (arg11 : Memref sig .tc .vmem S8x8x8x32x256 .fp8e4m3)
    (arg12 : Memref sig .tc .vmem S64x256x128 .f32) (v3 : Vec Ideal S64x256 .i32)
    (X4 : BufTy.Contents (Elt Ideal) arg4.view.ty) (X11 : BufTy.Contents (Elt Ideal) arg11.view.ty)
    (X12 : BufTy.Contents (Elt Ideal) arg12.view.ty) (k : Fin k0_t1_loop.trips) (j : S32x128.Idx) (r l : Fin 256)
    (hr : r.val = 32 * k.val + (j 0).val) (hl : l.val = 128 + (j 1).val) :
    trip_k0_t1.sl.r_163 (F := Ideal) arg4 arg11 arg12 v3 X4 X11 X12 k j
      = ∑ g : Fin 64, grp (arg11.view.read (Elt Ideal) X11) (arg4.view.read (Elt Ideal) X4) (arg12.view.read (Elt Ideal) X12)
          (k0_pay531 v3) r l g := by
  rw [sum_grpN]
  dsimp only [
    trip_k0_t1.sl.r_1, trip_k0_t1.sl.r_3, trip_k0_t1.sl.r_5, trip_k0_t1.sl.r_7, trip_k0_t1.sl.r_17,
    trip_k0_t1.sl.r_19, trip_k0_t1.sl.r_20, trip_k0_t1.sl.r_22, trip_k0_t1.sl.r_24, trip_k0_t1.sl.r_26,
    trip_k0_t1.sl.r_34, trip_k0_t1.sl.r_36, trip_k0_t1.sl.r_37, trip_k0_t1.sl.r_39, trip_k0_t1.sl.r_40,
    trip_k0_t1.sl.r_42, trip_k0_t1.sl.r_44, trip_k0_t1.sl.r_56, trip_k0_t1.sl.r_57, trip_k0_t1.sl.r_58,
    trip_k0_t1.sl.r_60, trip_k0_t1.sl.r_62, trip_k0_t1.sl.r_63, trip_k0_t1.sl.r_65, trip_k0_t1.sl.r_76,
    trip_k0_t1.sl.r_77, trip_k0_t1.sl.r_80, trip_k0_t1.sl.r_81, trip_k0_t1.sl.r_83, trip_k0_t1.sl.r_85,
    trip_k0_t1.sl.r_86, trip_k0_t1.sl.r_88, trip_k0_t1.sl.r_101, trip_k0_t1.sl.r_103, trip_k0_t1.sl.r_104,
    trip_k0_t1.sl.r_107, trip_k0_t1.sl.r_108, trip_k0_t1.sl.r_111, trip_k0_t1.sl.r_127, trip_k0_t1.sl.r_129,
    trip_k0_t1.sl.r_130, trip_k0_t1.sl.r_132, trip_k0_t1.sl.r_133, trip_k0_t1.sl.r_136, trip_k0_t1.sl.r_137,
    trip_k0_t1.sl.r_139, trip_k0_t1.sl.r_153, trip_k0_t1.sl.r_155, trip_k0_t1.sl.r_156, trip_k0_t1.sl.r_158,
    trip_k0_t1.sl.r_159, trip_k0_t1.sl.r_163, k0_pay241, k0_pay242, k0_pay243, k0_pay244, k0_pay246, k0_pay247,
    k0_pay248, k0_pay249, k0_pay251, k0_pay252, k0_pay253, k0_pay254, k0_pay256, k0_pay272, k0_pay273, k0_pay274,
    k0_pay276, k0_pay277, k0_pay278, k0_pay279, k0_pay280, k0_pay282, k0_pay283, k0_pay284, k0_pay285, k0_pay287,
    k0_pay288, k0_pay290, k0_pay306, k0_pay307, k0_pay308, k0_pay309, k0_pay310, k0_pay311, k0_pay312, k0_pay314,
    k0_pay315, k0_pay316, k0_pay317, k0_pay318, k0_pay320, k0_pay321, k0_pay322, k0_pay324, k0_pay343, k0_pay344,
    k0_pay345, k0_pay346, k0_pay347, k0_pay349, k0_pay350, k0_pay351, k0_pay352, k0_pay354, k0_pay355, k0_pay356,
    k0_pay357, k0_pay358, k0_pay360, k0_pay378, k0_pay379, k0_pay380, k0_pay383, k0_pay384, k0_pay385, k0_pay386,
    k0_pay388, k0_pay389, k0_pay390, k0_pay391, k0_pay393, k0_pay394, k0_pay395, k0_pay397, k0_pay416, k0_pay417,
    k0_pay418, k0_pay419, k0_pay421, k0_pay422, k0_pay425, k0_pay426, k0_pay427, k0_pay428, k0_pay430, k0_pay431,
    k0_pay433, k0_pay454, k0_pay455, k0_pay456, k0_pay458, k0_pay459, k0_pay460, k0_pay461, k0_pay463, k0_pay464,
    k0_pay467, k0_pay468, k0_pay469, k0_pay470, k0_pay472, k0_pay491, k0_pay492, k0_pay493, k0_pay494, k0_pay495,
    k0_pay497, k0_pay498, k0_pay499, k0_pay500, k0_pay502, k0_pay503, k0_pay506, k0_pay508]
  simp only [View.readAt_eq_ld]
  simp only [Finset.sum_range_succ, Finset.sum_range_zero]
  iterate 64
    refine congrArg₂ (fun a b : EReal => a + b) ?_ (termN _ _ _ _ k.val _ j r l _ _ _ _ _ 128 hr hl (by decide) (by decide)
      (by exact ClosedOff.eq) (by rfl) (by exact ClosedOff.eq) (by rfl) (by rfl))
  exact Ideal.ofBits_zero_f32

/-- The accumulator of the up product at columns 0 to 127 after the 64 groups. -/
theorem acc_up_0 (arg5 : Memref sig .tc .vmem S2048x256 .fp8e4m3) (arg11 : Memref sig .tc .vmem S8x8x8x32x256 .fp8e4m3)
    (arg12 : Memref sig .tc .vmem S64x256x128 .f32) (v8 : Vec Ideal S64x256 .i32)
    (X5 : BufTy.Contents (Elt Ideal) arg5.view.ty) (X11 : BufTy.Contents (Elt Ideal) arg11.view.ty)
    (X12 : BufTy.Contents (Elt Ideal) arg12.view.ty) (k : Fin k0_t1_loop.trips) (j : S32x128.Idx) (r l : Fin 256)
    (hr : r.val = 32 * k.val + (j 0).val) (hl : l.val = 0 + (j 1).val) :
    trip_k0_t1.sl.r_176 (F := Ideal) arg5 arg11 arg12 v8 X5 X11 X12 k j
      = ∑ g : Fin 64, grp (arg11.view.read (Elt Ideal) X11) (arg5.view.read (Elt Ideal) X5) (arg12.view.read (Elt Ideal) X12)
          (k0_pay532 v8) r l g := by
  rw [sum_grpN]
  dsimp only [
    trip_k0_t1.sl.r, trip_k0_t1.sl.r_8, trip_k0_t1.sl.r_9, trip_k0_t1.sl.r_11, trip_k0_t1.sl.r_13, trip_k0_t1.sl.r_14,
    trip_k0_t1.sl.r_16, trip_k0_t1.sl.r_27, trip_k0_t1.sl.r_28, trip_k0_t1.sl.r_30, trip_k0_t1.sl.r_32,
    trip_k0_t1.sl.r_34, trip_k0_t1.sl.r_35, trip_k0_t1.sl.r_45, trip_k0_t1.sl.r_46, trip_k0_t1.sl.r_49,
    trip_k0_t1.sl.r_51, trip_k0_t1.sl.r_53, trip_k0_t1.sl.r_55, trip_k0_t1.sl.r_66, trip_k0_t1.sl.r_68,
    trip_k0_t1.sl.r_71, trip_k0_t1.sl.r_73, trip_k0_t1.sl.r_75, trip_k0_t1.sl.r_89, trip_k0_t1.sl.r_92,
    trip_k0_t1.sl.r_95, trip_k0_t1.sl.r_98, trip_k0_t1.sl.r_100, trip_k0_t1.sl.r_112, trip_k0_t1.sl.r_114,
    trip_k0_t1.sl.r_115, trip_k0_t1.sl.r_118, trip_k0_t1.sl.r_121, trip_k0_t1.sl.r_124, trip_k0_t1.sl.r_126,
    trip_k0_t1.sl.r_140, trip_k0_t1.sl.r_141, trip_k0_t1.sl.r_144, trip_k0_t1.sl.r_145, trip_k0_t1.sl.r_148,
    trip_k0_t1.sl.r_150, trip_k0_t1.sl.r_152, trip_k0_t1.sl.r_164, trip_k0_t1.sl.r_165, trip_k0_t1.sl.r_167,
    trip_k0_t1.sl.r_168, trip_k0_t1.sl.r_169, trip_k0_t1.sl.r_172, trip_k0_t1.sl.r_173, trip_k0_t1.sl.r_176,
    k0_pay239, k0_pay241, k0_pay257, k0_pay258, k0_pay259, k0_pay260, k0_pay261, k0_pay263, k0_pay264, k0_pay265,
    k0_pay266, k0_pay268, k0_pay269, k0_pay270, k0_pay272, k0_pay291, k0_pay292, k0_pay293, k0_pay294, k0_pay296,
    k0_pay297, k0_pay298, k0_pay299, k0_pay301, k0_pay302, k0_pay303, k0_pay304, k0_pay306, k0_pay307, k0_pay325,
    k0_pay326, k0_pay327, k0_pay330, k0_pay331, k0_pay332, k0_pay333, k0_pay335, k0_pay336, k0_pay337, k0_pay338,
    k0_pay340, k0_pay341, k0_pay343, k0_pay361, k0_pay362, k0_pay363, k0_pay365, k0_pay366, k0_pay369, k0_pay370,
    k0_pay371, k0_pay372, k0_pay374, k0_pay375, k0_pay376, k0_pay378, k0_pay398, k0_pay399, k0_pay401, k0_pay402,
    k0_pay404, k0_pay405, k0_pay407, k0_pay408, k0_pay411, k0_pay412, k0_pay413, k0_pay414, k0_pay416, k0_pay434,
    k0_pay435, k0_pay436, k0_pay437, k0_pay438, k0_pay439, k0_pay441, k0_pay442, k0_pay444, k0_pay445, k0_pay447,
    k0_pay448, k0_pay451, k0_pay452, k0_pay454, k0_pay473, k0_pay474, k0_pay475, k0_pay476, k0_pay478, k0_pay479,
    k0_pay480, k0_pay481, k0_pay482, k0_pay484, k0_pay485, k0_pay487, k0_pay488, k0_pay489, k0_pay491, k0_pay509,
    k0_pay510, k0_pay511, k0_pay513, k0_pay514, k0_pay515, k0_pay516, k0_pay517, k0_pay519, k0_pay520, k0_pay521,
    k0_pay522, k0_pay523, k0_pay525, k0_pay526]
  simp only [View.readAt_eq_ld]
  simp only [Finset.sum_range_succ, Finset.sum_range_zero]
  iterate 64
    refine congrArg₂ (fun a b : EReal => a + b) ?_ (termN _ _ _ _ k.val _ j r l _ _ _ _ _ 0 hr hl (by decide) (by decide)
      (by exact ClosedOff.eq) (by rfl) (by exact ClosedOff.eq) (by rfl) (by rfl))
  exact Ideal.ofBits_zero_f32

/-- The accumulator of the up product at columns 128 to 255 after the 64 groups. -/
theorem acc_up_128 (arg5 : Memref sig .tc .vmem S2048x256 .fp8e4m3) (arg11 : Memref sig .tc .vmem S8x8x8x32x256 .fp8e4m3)
    (arg12 : Memref sig .tc .vmem S64x256x128 .f32) (v8 : Vec Ideal S64x256 .i32)
    (X5 : BufTy.Contents (Elt Ideal) arg5.view.ty) (X11 : BufTy.Contents (Elt Ideal) arg11.view.ty)
    (X12 : BufTy.Contents (Elt Ideal) arg12.view.ty) (k : Fin k0_t1_loop.trips) (j : S32x128.Idx) (r l : Fin 256)
    (hr : r.val = 32 * k.val + (j 0).val) (hl : l.val = 128 + (j 1).val) :
    trip_k0_t1.sl.r_178 (F := Ideal) arg5 arg11 arg12 v8 X5 X11 X12 k j
      = ∑ g : Fin 64, grp (arg11.view.read (Elt Ideal) X11) (arg5.view.read (Elt Ideal) X5) (arg12.view.read (Elt Ideal) X12)
          (k0_pay532 v8) r l g := by
  rw [sum_grpN]
  dsimp only [
    trip_k0_t1.sl.r, trip_k0_t1.sl.r_8, trip_k0_t1.sl.r_10, trip_k0_t1.sl.r_12, trip_k0_t1.sl.r_13,
    trip_k0_t1.sl.r_15, trip_k0_t1.sl.r_16, trip_k0_t1.sl.r_27, trip_k0_t1.sl.r_29, trip_k0_t1.sl.r_31,
    trip_k0_t1.sl.r_33, trip_k0_t1.sl.r_34, trip_k0_t1.sl.r_35, trip_k0_t1.sl.r_45, trip_k0_t1.sl.r_47,
    trip_k0_t1.sl.r_48, trip_k0_t1.sl.r_50, trip_k0_t1.sl.r_52, trip_k0_t1.sl.r_54, trip_k0_t1.sl.r_55,
    trip_k0_t1.sl.r_66, trip_k0_t1.sl.r_67, trip_k0_t1.sl.r_69, trip_k0_t1.sl.r_70, trip_k0_t1.sl.r_72,
    trip_k0_t1.sl.r_74, trip_k0_t1.sl.r_75, trip_k0_t1.sl.r_89, trip_k0_t1.sl.r_90, trip_k0_t1.sl.r_91,
    trip_k0_t1.sl.r_93, trip_k0_t1.sl.r_94, trip_k0_t1.sl.r_96, trip_k0_t1.sl.r_97, trip_k0_t1.sl.r_99,
    trip_k0_t1.sl.r_100, trip_k0_t1.sl.r_112, trip_k0_t1.sl.r_113, trip_k0_t1.sl.r_116, trip_k0_t1.sl.r_117,
    trip_k0_t1.sl.r_119, trip_k0_t1.sl.r_120, trip_k0_t1.sl.r_122, trip_k0_t1.sl.r_123, trip_k0_t1.sl.r_125,
    trip_k0_t1.sl.r_126, trip_k0_t1.sl.r_140, trip_k0_t1.sl.r_142, trip_k0_t1.sl.r_143, trip_k0_t1.sl.r_146,
    trip_k0_t1.sl.r_147, trip_k0_t1.sl.r_149, trip_k0_t1.sl.r_151, trip_k0_t1.sl.r_152, trip_k0_t1.sl.r_164,
    trip_k0_t1.sl.r_166, trip_k0_t1.sl.r_167, trip_k0_t1.sl.r_170, trip_k0_t1.sl.r_171, trip_k0_t1.sl.r_174,
    trip_k0_t1.sl.r_175, trip_k0_t1.sl.r_177, trip_k0_t1.sl.r_178, k0_pay240, k0_pay241, k0_pay257, k0_pay258,
    k0_pay259, k0_pay260, k0_pay262, k0_pay263, k0_pay264, k0_pay265, k0_pay267, k0_pay268, k0_pay269, k0_pay271,
    k0_pay272, k0_pay291, k0_pay292, k0_pay293, k0_pay295, k0_pay296, k0_pay297, k0_pay298, k0_pay300, k0_pay301,
    k0_pay302, k0_pay303, k0_pay305, k0_pay306, k0_pay307, k0_pay325, k0_pay326, k0_pay328, k0_pay329, k0_pay330,
    k0_pay331, k0_pay332, k0_pay334, k0_pay335, k0_pay336, k0_pay337, k0_pay339, k0_pay340, k0_pay342, k0_pay343,
    k0_pay361, k0_pay362, k0_pay363, k0_pay364, k0_pay365, k0_pay367, k0_pay368, k0_pay369, k0_pay370, k0_pay371,
    k0_pay373, k0_pay374, k0_pay375, k0_pay377, k0_pay378, k0_pay398, k0_pay399, k0_pay400, k0_pay401, k0_pay403,
    k0_pay404, k0_pay405, k0_pay406, k0_pay407, k0_pay409, k0_pay410, k0_pay411, k0_pay412, k0_pay413, k0_pay415,
    k0_pay416, k0_pay434, k0_pay435, k0_pay438, k0_pay439, k0_pay440, k0_pay441, k0_pay443, k0_pay444, k0_pay445,
    k0_pay446, k0_pay447, k0_pay449, k0_pay450, k0_pay451, k0_pay453, k0_pay454, k0_pay473, k0_pay474, k0_pay475,
    k0_pay477, k0_pay478, k0_pay481, k0_pay482, k0_pay483, k0_pay484, k0_pay486, k0_pay487, k0_pay488, k0_pay490,
    k0_pay491, k0_pay509, k0_pay510, k0_pay512, k0_pay513, k0_pay515, k0_pay516, k0_pay518, k0_pay519, k0_pay522,
    k0_pay523, k0_pay524, k0_pay525, k0_pay527, k0_pay528]
  simp only [View.readAt_eq_ld]
  simp only [Finset.sum_range_succ, Finset.sum_range_zero]
  iterate 64
    refine congrArg₂ (fun a b : EReal => a + b) ?_ (termN _ _ _ _ k.val _ j r l _ _ _ _ _ 128 hr hl (by decide) (by decide)
      (by exact ClosedOff.eq) (by rfl) (by exact ClosedOff.eq) (by rfl) (by rfl))
  exact Ideal.ofBits_zero_f32

end Cert.GateUpIdeal.Gen

end
-- ==== Proof.GateUpGu.lean ====
/- What the loop of `gate_up` leaves in its scratch: for each row and column of the tile the gate product (plane 0) and
   the up product (plane 1). -/
module

public import proofs.«01_k».proof.Proof.GateUpTrip

@[expose] public section

set_option maxRecDepth 16384

noncomputable section

open Idealize.ShloMosaic Idealize.ShloMosaic.TcCoe Idealize.SL.Sem

namespace Cert.GateUpIdeal.Gen

/-- The scaled product of row `r` and column `l` of a tile. -/
def prod (A : Vec Ideal S8x8x8x32x256 .fp8e4m3) (W : Vec Ideal S2048x256 .fp8e4m3) (SA : Vec Ideal S64x256x128 .f32)
    (SW : FVec Ideal S64x256 .f32) (r l : Fin 256) : EReal := ∑ g : Fin 64, grp A W SA SW r l g

/-- What the loop leaves at an index of its scratch. -/
def gu (A : Vec Ideal S8x8x8x32x256 .fp8e4m3) (W4 W5 : Vec Ideal S2048x256 .fp8e4m3) (SA : Vec Ideal S64x256x128 .f32)
    (v3 v8 : Vec Ideal S64x256 .i32) (y : S2x256x256.Idx) : EReal :=
  if (y 0).val = 0 then prod A W4 SA (k0_pay531 v3) (y 1) (y 2) else prod A W5 SA (k0_pay532 v8) (y 1) (y 2)

theorem piece_cast (w : FVec Ideal S32x128 .f32) (x : S1x32x128.Idx) :
    shapeCast S1x32x128 w shapeCasts_S32x128_S1x32x128 x = w (ix2 (x 1) (x 2)) := by
  pointwise

/-- Every piece of a trip has the value of `gu` where it lies. -/
theorem trip_at
    (𝒱 : Variants) (c : Dev nD) (bd : Option 𝒱.V) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole) (v3 : Vec Ideal S64x256 .i32) (v8 : Vec Ideal S64x256 .i32) (X_arg4 : BufTy.Contents (Elt Ideal)
    arg4.view.ty) (X_arg5 : BufTy.Contents (Elt Ideal) arg5.view.ty) (X_arg11 : BufTy.Contents (Elt Ideal)
    arg11.view.ty) (X_arg12 : BufTy.Contents (Elt Ideal) arg12.view.ty) (k : Fin k0_t1_loop.trips) (y : S2x256x256.Idx) :
    View.AllAt (tripL_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 k) y
      (gu (arg11.view.read (Elt Ideal) X_arg11) (arg4.view.read (Elt Ideal) X_arg4) (arg5.view.read (Elt Ideal) X_arg5)
        (arg12.view.read (Elt Ideal) X_arg12) v3 v8 y) := by
  have hy0 : (y 0).val < 2 := (y 0).isLt
  unfold tripL_k0_t1 trip_k0_t1
  dsimp only
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro x hx
    have h0 := hx 0
    have h1 := hx 1
    have h2 := hx 2
    have hx0 : (x 0).val < 1 := (x 0).isLt
  · rw [k0_off76_eq] at h0 h1 h2
    refine (piece_cast _ x).trans ((acc_up_128 _ _ _ _ _ _ _ k (ix2 (x 1) (x 2)) (y 1) (y 2) h1 h2).trans (if_neg ?_).symm)
    change (y 0).val = 1 + _ at h0
    omega
  · rw [k0_off75_eq] at h0 h1 h2
    refine (piece_cast _ x).trans ((acc_up_0 _ _ _ _ _ _ _ k (ix2 (x 1) (x 2)) (y 1) (y 2) h1 h2).trans (if_neg ?_).symm)
    change (y 0).val = 1 + _ at h0
    omega
  · rw [k0_off74_eq] at h0 h1 h2
    refine (piece_cast _ x).trans ((acc_gate_128 _ _ _ _ _ _ _ k (ix2 (x 1) (x 2)) (y 1) (y 2) h1 h2).trans (if_pos ?_).symm)
    change (y 0).val = 0 + _ at h0
    omega
  · rw [k0_off73_eq] at h0 h1 h2
    refine (piece_cast _ x).trans ((acc_gate_0 _ _ _ _ _ _ _ k (ix2 (x 1) (x 2)) (y 1) (y 2) h1 h2).trans (if_pos ?_).symm)
    change (y 0).val = 0 + _ at h0
    omega

/-- Every piece of the trips before `n` has the value of `gu` where it lies. -/
theorem pb_at
    (𝒱 : Variants) (c : Dev nD) (bd : Option 𝒱.V) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole) (v3 : Vec Ideal S64x256 .i32) (v8 : Vec Ideal S64x256 .i32) (X_arg4 : BufTy.Contents (Elt Ideal)
    arg4.view.ty) (X_arg5 : BufTy.Contents (Elt Ideal) arg5.view.ty) (X_arg11 : BufTy.Contents (Elt Ideal)
    arg11.view.ty) (X_arg12 : BufTy.Contents (Elt Ideal) arg12.view.ty) (y : S2x256x256.Idx) :
    ∀ n : ℕ, n ≤ k0_t1_loop.trips → View.AllAt (pb_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 n) y
      (gu (arg11.view.read (Elt Ideal) X_arg11) (arg4.view.read (Elt Ideal) X_arg4) (arg5.view.read (Elt Ideal) X_arg5)
        (arg12.view.read (Elt Ideal) X_arg12) v3 v8 y)
  | 0, _ => View.allAt_nil _ _
  | n + 1, hn => by
    rw [show n + 1 = (⟨n, hn⟩ : Fin k0_t1_loop.trips).val + 1 from rfl, pb_k0_t1_succ]
    intro p hp
    rcases List.mem_append.mp hp with hp | hp
    · exact trip_at
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 _ y p hp
    · exact pb_at
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 y n (Nat.le_of_succ_le hn) p hp

/-- The pieces of trip `k` are among those of the trips before any later one. -/
theorem pb_mono
    (𝒱 : Variants) (c : Dev nD) (bd : Option 𝒱.V) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole) (v3 : Vec Ideal S64x256 .i32) (v8 : Vec Ideal S64x256 .i32) (X_arg4 : BufTy.Contents (Elt Ideal)
    arg4.view.ty) (X_arg5 : BufTy.Contents (Elt Ideal) arg5.view.ty) (X_arg11 : BufTy.Contents (Elt Ideal)
    arg11.view.ty) (X_arg12 : BufTy.Contents (Elt Ideal) arg12.view.ty) (k : Fin k0_t1_loop.trips) :
    ∀ n : ℕ, k.val < n → n ≤ k0_t1_loop.trips → ∀ p ∈ tripL_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 k, p ∈ pb_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 n
  | 0, h, _ => absurd h (Nat.not_lt_zero _)
  | n + 1, h, hn => by
    intro p hp
    rw [show n + 1 = (⟨n, hn⟩ : Fin k0_t1_loop.trips).val + 1 from rfl, pb_k0_t1_succ]
    refine List.mem_append.mpr ?_
    by_cases hk : k.val = n
    · left
      rw [show (⟨n, hn⟩ : Fin k0_t1_loop.trips) = k from Fin.ext hk.symm]
      exact hp
    · right
      exact pb_mono
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 k n (by omega) (Nat.le_of_succ_le hn) p hp

theorem trips_eq : k0_t1_loop.trips = 8 := by decide +kernel

/-- A trip's pieces cover its rows. -/
theorem trip_cover
    (𝒱 : Variants) (c : Dev nD) (bd : Option 𝒱.V) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole) (v3 : Vec Ideal S64x256 .i32) (v8 : Vec Ideal S64x256 .i32) (X_arg4 : BufTy.Contents (Elt Ideal)
    arg4.view.ty) (X_arg5 : BufTy.Contents (Elt Ideal) arg5.view.ty) (X_arg11 : BufTy.Contents (Elt Ideal)
    arg11.view.ty) (X_arg12 : BufTy.Contents (Elt Ideal) arg12.view.ty) (k : Fin k0_t1_loop.trips) (y : S2x256x256.Idx) (hy : (y 1).val / 32 = k.val) :
    ∃ p ∈ tripL_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 k, y ∈ p.1.set := by
  have hy0 : (y 0).val < 2 := (y 0).isLt
  have hy2 : (y 2).val < 256 := (y 2).isLt
  unfold tripL_k0_t1 trip_k0_t1
  dsimp only
  by_cases h0 : (y 0).val = 0 <;> by_cases h2 : (y 2).val < 128
  · refine ⟨_, List.mem_cons_of_mem _ (List.mem_cons_of_mem _ (List.mem_cons_of_mem _ List.mem_cons_self)), ?_⟩
    show y ∈ (Rect.unit (s := S2x256x256) (k0_off73 k) S1x32x128.size (k0_off73_inb k)).set
    rw [Rect.mem_set_unit, k0_off73_eq]
    intro a
    fin_cases a <;> simp <;> omega
  · refine ⟨_, List.mem_cons_of_mem _ (List.mem_cons_of_mem _ List.mem_cons_self), ?_⟩
    show y ∈ (Rect.unit (s := S2x256x256) (k0_off74 k) S1x32x128.size (k0_off74_inb k)).set
    rw [Rect.mem_set_unit, k0_off74_eq]
    intro a
    fin_cases a <;> simp <;> omega
  · refine ⟨_, List.mem_cons_of_mem _ List.mem_cons_self, ?_⟩
    show y ∈ (Rect.unit (s := S2x256x256) (k0_off75 k) S1x32x128.size (k0_off75_inb k)).set
    rw [Rect.mem_set_unit, k0_off75_eq]
    intro a
    fin_cases a <;> simp <;> omega
  · refine ⟨_, List.mem_cons_self, ?_⟩
    show y ∈ (Rect.unit (s := S2x256x256) (k0_off76 k) S1x32x128.size (k0_off76_inb k)).set
    rw [Rect.mem_set_unit, k0_off76_eq]
    intro a
    fin_cases a <;> simp <;> omega

/-- What a load of the scratch finds after the loop. -/
theorem gu_read
    (𝒱 : Variants) (c : Dev nD) (bd : Option 𝒱.V) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole) (v3 : Vec Ideal S64x256 .i32) (v8 : Vec Ideal S64x256 .i32) (X_arg4 : BufTy.Contents (Elt Ideal)
    arg4.view.ty) (X_arg5 : BufTy.Contents (Elt Ideal) arg5.view.ty) (X_arg11 : BufTy.Contents (Elt Ideal)
    arg11.view.ty) (X_arg12 : BufTy.Contents (Elt Ideal) arg12.view.ty) (B : LoadRect S2x256x256) :
    arg13.view.readCov (Val := Elt Ideal) (pb_k0_t1 (F := Ideal)
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 k0_t1_loop.trips) B
      = fun j => gu (arg11.view.read (Elt Ideal) X_arg11) (arg4.view.read (Elt Ideal) X_arg4) (arg5.view.read (Elt Ideal) X_arg5)
          (arg12.view.read (Elt Ideal) X_arg12) v3 v8 (B.idx j) := by
  rw [View.readCov_eq_canon']
  funext j
  refine View.canon_eq_of_allAt _ _ _ ?_ (pb_at
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 (B.idx j) _ (le_refl _))
  have h1 : ((B.idx j) 1).val < 256 := ((B.idx j) 1).isLt
  obtain ⟨p, hp, hm⟩ := trip_cover
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 ⟨((B.idx j) 1).val / 32, by rw [trips_eq]; omega⟩ (B.idx j) rfl
  exact ⟨p, pb_mono
            𝒱 c bd i arg2 harg2 arg3 harg3 arg4 harg4 arg5 harg5 arg6 harg6 arg7 harg7 arg8 harg8 arg9 harg9 arg10 harg10
            arg11 harg11 arg12 harg12 arg13 harg13 v3 v8 X_arg4 X_arg5 X_arg11 X_arg12 _ _ (Fin.isLt _) (le_refl _) p hp, hm⟩

end Cert.GateUpIdeal.Gen

end
-- ==== Proof.GateUpScr.lean ====
/- What the first point of a row of tiles leaves in the two scratch arrays that the row keeps: the input's codes spread
   out, one block of 32 columns at a time with zeros elsewhere, and the input's scales, one column at a time. -/
module

public import proofs.«01_k».proof.Proof.Gen.GateUpIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateUpIdeal.Gen

/-! ## The spread codes -/

theorem slices_at (c : ℕ) (hc : c < 8) : S256x2048.Slices ![0, c * 256] S256x256 := by
  refine ⟨rfl, ?_⟩
  intro a
  fin_cases a
  · show 0 + 256 ≤ 256; omega
  · show c * 256 + 256 ≤ 2048; omega

/-- Each column's block of 32, as printed: a quotient rounded down. -/
def blockOf : IVec S256x256 32 :=
  have v351 : IVec S256x256 32 := iota .tc S256x256 32 [1] iota_S256x256_d1_w32
  have q : IVec S256x256 32 := divsi v351 (broadcast S256x256 32#32)
  select (andi (cmpi .ne (subi (extui 32 (cmpi .sgt v351 (broadcast S256x256 0#32)) natLt_1_32) (extui 32 (cmpi .slt v351 (broadcast S256x256 0#32)) natLt_1_32))
      (broadcast S256x256 (Scalar.subi (Scalar.extui (Scalar.cmpi .sgt 32#32 0#32)) (Scalar.extui (Scalar.cmpi .slt 32#32 0#32)))))
      (cmpi .ne (remsi v351 (broadcast S256x256 32#32)) (broadcast S256x256 0#32)))
    (subi q (broadcast S256x256 1#32)) q

/-- A part of the codes with all but one block of 32 columns zeroed. -/
def maskPiece (b : BitVec 32) (s : FVec Ideal S256x256 .fp8e4m3) : FVec Ideal S8x1x1x32x256 .fp8e4m3 :=
  shapeCast S8x1x1x32x256 (shapeCast S8x32x256 (select (cmpi .eq blockOf (broadcast S256x256 b)) s
    (broadcast S256x256 (Scalar.ofBits .fp8e4m3 0x00#8 : Ideal .fp8e4m3))) shapeCasts_S256x256_S8x32x256) shapeCasts_S8x32x256_S8x1x1x32x256

theorem inb0 (n : ℕ) (hn : n < 64) : ∀ a, (![0, n / 8, n % 8, 0, 0] : Fin 5 → ℕ) a + S8x1x1x32x256.size a ≤ S8x8x8x32x256.size a := by
  intro a
  fin_cases a
  · show 0 + 8 ≤ 8; omega
  · show n / 8 + 1 ≤ 8; omega
  · show n % 8 + 1 ≤ 8; omega
  · show 0 + 32 ≤ 32; omega
  · show 0 + 256 ≤ 256; omega

/-- The first `n` pieces, the last first. -/
def pieces0 (X : Vec Ideal S256x2048 .fp8e4m3) : (n : ℕ) → n ≤ 64 → List (View.Piece (Elt Ideal) S8x8x8x32x256 .fp8e4m3)
  | 0, _ => []
  | n + 1, h => ⟨Rect.unit ![0, n / 8, n % 8, 0, 0] S8x1x1x32x256.size (inb0 n h),
      maskPiece (BitVec.ofNat 32 (n % 8)) (extractStridedSlice S256x256 ![0, n / 8 * 256] X (slices_at (n / 8) (by omega)))⟩ :: pieces0 X n (by omega)

theorem hs0_eq (c : Dev nD) (arg2 : Memref sig .tc .vmem S256x2048 .fp8e4m3) (harg2 : arg2.IsWhole) (x0 : Vec Ideal S256x2048 .fp8e4m3) :
    kernelRun0_A.sl.HS0_64 (F := Ideal) c arg2 harg2 x0
      = pieces0 (View.readAt (Elt Ideal) arg2.view (Rect.unit ![0, 0] S256x2048.size inb_S256x2048_S256x2048_0_0).toLoadRect (harg2.unread x0)) 64 (le_refl _) := by
  unfold kernelRun0_A.sl.HS0_64
  rfl

/-! ## The scales -/

theorem slices1_at (g : ℕ) (hg : g < 64) : S256x64.Slices ![0, g] S256x1 := by
  refine ⟨rfl, ?_⟩
  intro a
  fin_cases a
  · show 0 + 256 ≤ 256; omega
  · show g + 1 ≤ 64; omega

theorem inb1 (n : ℕ) (hn : n < 64) : ∀ a, (![n, 0, 0] : Fin 3 → ℕ) a + S1x256x128.size a ≤ S64x256x128.size a := by
  intro a
  fin_cases a
  · show n + 1 ≤ 64; omega
  · show 0 + 256 ≤ 256; omega
  · show 0 + 128 ≤ 128; omega

/-- One column of the scales over all lanes. -/
def colPiece (g : ℕ) (hg : g < 64) (X : Vec Ideal S256x64 .i8) : FVec Ideal S1x256x128 .f32 :=
  shapeCast S1x256x128 (broadcastTo S256x128 (shapeCast S256x1 (extractStridedSlice S256x1 ![0, g] (k0_pay164 (F := Ideal) X) (slices1_at g hg))
    shapeCasts_S256x1_S256x1) broadcasts_S256x1_S256x128) shapeCasts_S256x128_S1x256x128

/-- The first `n` pieces, the last first. -/
def pieces1 (X : Vec Ideal S256x64 .i8) : (n : ℕ) → n ≤ 64 → List (View.Piece (Elt Ideal) S64x256x128 .f32)
  | 0, _ => []
  | n + 1, h => ⟨Rect.unit ![n, 0, 0] S1x256x128.size (inb1 n h), colPiece n h X⟩ :: pieces1 X n (by omega)

theorem hs1_eq (c : Dev nD) (arg3 : Memref sig .tc .vmem S256x64 .i8) (harg3 : arg3.IsWhole) (x1 : Vec Ideal S256x64 .i8) :
    kernelRun0_A.sl.HS1_64 (F := Ideal) c arg3 harg3 x1
      = pieces1 (View.readAt (Elt Ideal) arg3.view (Rect.unit ![0, 0] S256x64.size inb_S256x64_S256x64_0_0).toLoadRect (harg3.unread x1)) 64 (le_refl _) := by
  unfold kernelRun0_A.sl.HS1_64
  rfl

/-! ## The values -/

theorem blocks_facts : ∀ k : Fin 256,
    Scalar.select (IntOp.andi (IntOp.cmpi .ne (IntOp.subi ((IntOp.cmpi .sgt (BitVec.ofNat 32 k.val) 0#32).setWidth 32) ((IntOp.cmpi .slt (BitVec.ofNat 32 k.val) 0#32).setWidth 32))
      (Scalar.subi (Scalar.extui (Scalar.cmpi .sgt 32#32 0#32)) (Scalar.extui (Scalar.cmpi .slt 32#32 0#32))))
      (IntOp.cmpi .ne (IntOp.remsi .vector (BitVec.ofNat 32 k.val) 32#32) 0#32))
      (IntOp.subi (IntOp.divsi .vector (BitVec.ofNat 32 k.val) 32#32) 1#32) (IntOp.divsi .vector (BitVec.ofNat 32 k.val) 32#32) = BitVec.ofNat 32 (k.val / 32) := by
  decide +kernel

theorem blockOf_at (j : S256x256.Idx) : blockOf j = BitVec.ofNat 32 ((j 1).val / 32) := by
  have hi : iota .tc S256x256 32 [1] iota_S256x256_d1_w32 j = BitVec.ofNat 32 (j 1).val := by pointwise
  refine Eq.trans ?_ (blocks_facts (j 1))
  rw [← hi]
  rfl

theorem eq_facts : ∀ a b : Fin 8, IntOp.cmpi .eq (BitVec.ofNat 32 a.val) (BitVec.ofNat 32 b.val) = if a.val = b.val then 1#1 else 0#1 := by
  decide +kernel

theorem mask_cast (s : FVec Ideal S256x256 .fp8e4m3) (x : S8x1x1x32x256.Idx) :
    shapeCast S8x1x1x32x256 (shapeCast S8x32x256 s shapeCasts_S256x256_S8x32x256) shapeCasts_S8x32x256_S8x1x1x32x256 x
      = s (ix2 ⟨(x 0).val * 32 + (x 3).val, by
          have h0 : (x 0).val < 8 := (x 0).isLt
          have h3 : (x 3).val < 32 := (x 3).isLt
          omega⟩ (x 4)) := by
  pointwise

theorem zero8 : Ideal.ofBits .fp8e4m3 0x00#8 = 0 := by simp [Ideal.ofBits, Ideal.e4m3fn, Ideal.ieee]

theorem mask_at (q : Fin 8) (s : FVec Ideal S256x256 .fp8e4m3) (x : S8x1x1x32x256.Idx) :
    maskPiece (BitVec.ofNat 32 q.val) s x = (if (x 4).val / 32 = q.val then s (ix2 ⟨(x 0).val * 32 + (x 3).val, by
          have h0 : (x 0).val < 8 := (x 0).isLt
          have h3 : (x 3).val < 32 := (x 3).isLt
          omega⟩ (x 4)) else 0 : EReal) := by
  have h4 : (x 4).val < 256 := (x 4).isLt
  unfold maskPiece
  refine (mask_cast _ x).trans ?_
  have e : ∀ i : S256x256.Idx, select (cmpi .eq blockOf (broadcast S256x256 (BitVec.ofNat 32 q.val))) s
      (broadcast S256x256 (Scalar.ofBits .fp8e4m3 0x00#8 : Ideal .fp8e4m3)) i
      = Scalar.select (IntOp.cmpi .eq (blockOf i) (BitVec.ofNat 32 q.val)) (s i) (Ideal.ofBits .fp8e4m3 0x00#8) := fun _ => rfl
  refine (e _).trans ?_
  rw [blockOf_at, zero8]
  refine (congrArg (fun b => Scalar.select b _ _) (eq_facts ⟨(x 4).val / 32, by omega⟩ q)).trans ?_
  by_cases h : (x 4).val / 32 = q.val
  · rw [if_pos h, if_pos h]; rfl
  · rw [if_neg h, if_neg h]; rfl

/-- The spread codes: the code at its own block, zero elsewhere. -/
def xm (X : Vec Ideal S256x2048 .fp8e4m3) : Vec Ideal S8x8x8x32x256 .fp8e4m3 := fun y =>
  (if (y 4).val / 32 = (y 2).val then X (ix2 ⟨(y 0).val * 32 + (y 3).val, by
      have h0 : (y 0).val < 8 := (y 0).isLt
      have h3 : (y 3).val < 32 := (y 3).isLt
      omega⟩ ⟨(y 1).val * 256 + (y 4).val, by
      have h0 : (y 1).val < 8 := (y 1).isLt
      have h3 : (y 4).val < 256 := (y 4).isLt
      omega⟩) else 0 : EReal)

theorem pieces0_at (X : Vec Ideal S256x2048 .fp8e4m3) (y : S8x8x8x32x256.Idx) : ∀ (n : ℕ) (hn : n ≤ 64), View.AllAt (pieces0 X n hn) y (xm X y)
  | 0, _ => View.allAt_nil _ _
  | n + 1, hn => by
    refine View.allAt_cons_unit _ _ _ _ _ ?_ (pieces0_at X y n (by omega))
    intro x hx
    have h0 : (y 0).val = 0 + (x 0).val := hx 0
    have h1 : (y 1).val = n / 8 + (x 1).val := hx 1
    have h2 : (y 2).val = n % 8 + (x 2).val := hx 2
    have h3 : (y 3).val = 0 + (x 3).val := hx 3
    have h4 : (y 4).val = 0 + (x 4).val := hx 4
    have l1 : (x 1).val < 1 := (x 1).isLt
    have l2 : (x 2).val < 1 := (x 2).isLt
    refine (mask_at ⟨n % 8, by omega⟩ _ x).trans ?_
    unfold xm
    have hc : ((x 4).val / 32 = n % 8) ↔ ((y 4).val / 32 = (y 2).val) := by omega
    by_cases h : (x 4).val / 32 = n % 8
    · rw [if_pos h, if_pos (hc.mp h)]
      refine congrArg X ?_
      funext a
      match a with
      | ⟨0, _⟩ => exact Fin.ext (show 0 + ((x 0).val * 32 + (x 3).val) = (y 0).val * 32 + (y 3).val by omega)
      | ⟨1, _⟩ => exact Fin.ext (show n / 8 * 256 + (x 4).val = (y 1).val * 256 + (y 4).val by omega)
    · rw [if_neg h, if_neg (fun hh => h (hc.mpr hh))]

theorem pieces0_cover (X : Vec Ideal S256x2048 .fp8e4m3) (y : S8x8x8x32x256.Idx) : ∀ (n : ℕ) (hn : n ≤ 64), (y 1).val * 8 + (y 2).val < n →
    ∃ p ∈ pieces0 X n hn, y ∈ p.1.set
  | 0, _, h => absurd h (Nat.not_lt_zero _)
  | n + 1, hn, h => by
    have l0 : (y 0).val < 8 := (y 0).isLt
    have l2 : (y 2).val < 8 := (y 2).isLt
    have l3 : (y 3).val < 32 := (y 3).isLt
    have l4 : (y 4).val < 256 := (y 4).isLt
    by_cases he : (y 1).val * 8 + (y 2).val = n
    · refine ⟨_, List.mem_cons_self, ?_⟩
      show y ∈ (Rect.unit (s := S8x8x8x32x256) ![0, n / 8, n % 8, 0, 0] S8x1x1x32x256.size (inb0 n hn)).set
      rw [Rect.mem_set_unit]
      intro a
      fin_cases a <;> simp <;> omega
    · obtain ⟨p, hp, hm⟩ := pieces0_cover X y n (by omega) (by omega)
      exact ⟨p, List.mem_cons_of_mem _ hp, hm⟩

theorem pieces0_canon (X : Vec Ideal S256x2048 .fp8e4m3) (y : S8x8x8x32x256.Idx) : View.canon (pieces0 X 64 (le_refl _)) y = xm X y := by
  have l1 : (y 1).val < 8 := (y 1).isLt
  have l2 : (y 2).val < 8 := (y 2).isLt
  exact View.canon_eq_of_allAt _ _ _ (pieces0_cover X y 64 (le_refl _) (by omega)) (pieces0_at X y 64 (le_refl _))

theorem col_at (g : ℕ) (hg : g < 64) (X : Vec Ideal S256x64 .i8) (x : S1x256x128.Idx) :
    colPiece g hg X x = Ideal.ofBits .f32 (IntOp.shli .vector ((X (ix2 (x 1) ⟨g, hg⟩)).setWidth 32) 23#32) := by
  have e1 : ∀ v : FVec Ideal S256x128 .f32, shapeCast S1x256x128 v shapeCasts_S256x128_S1x256x128 x = v (ix2 (x 1) (x 2)) := by
    intro v; pointwise
  have e2 : ∀ (v : FVec Ideal S256x1 .f32) (j : S256x128.Idx), broadcastTo S256x128 (shapeCast S256x1 v shapeCasts_S256x1_S256x1) broadcasts_S256x1_S256x128 j = v (ix2 (j 0) 0) := by
    intro v j; pointwise
  unfold colPiece
  refine (e1 _).trans ((e2 _ _).trans ?_)
  have e3 : ∀ v : FVec Ideal S256x64 .f32, extractStridedSlice S256x1 ![0, g] v (slices1_at g hg) (ix2 (x 1) 0) = v (ix2 (x 1) ⟨g, hg⟩) := by
    intro v
    refine congrArg v ?_
    funext a
    match a with
    | ⟨0, _⟩ => exact Fin.ext (Nat.zero_add _)
    | ⟨1, _⟩ => exact Fin.ext (Nat.add_zero _)
  exact e3 _

/-- The input's scales over all lanes. -/
def sa (X : Vec Ideal S256x64 .i8) : Vec Ideal S64x256x128 .f32 := fun y =>
  Ideal.ofBits .f32 (IntOp.shli .vector ((X (ix2 (y 1) (y 0))).setWidth 32) 23#32)

theorem pieces1_at (X : Vec Ideal S256x64 .i8) (y : S64x256x128.Idx) : ∀ (n : ℕ) (hn : n ≤ 64), View.AllAt (pieces1 X n hn) y (sa X y)
  | 0, _ => View.allAt_nil _ _
  | n + 1, hn => by
    refine View.allAt_cons_unit _ _ _ _ _ ?_ (pieces1_at X y n (by omega))
    intro x hx
    have h0 : (y 0).val = n + (x 0).val := hx 0
    have h1 : (y 1).val = 0 + (x 1).val := hx 1
    have l0 : (x 0).val < 1 := (x 0).isLt
    refine (col_at n hn X x).trans ?_
    unfold sa
    refine congrArg (fun i => Ideal.ofBits .f32 (IntOp.shli .vector ((X i).setWidth 32) 23#32)) ?_
    funext a
    match a with
    | ⟨0, _⟩ => exact Fin.ext (show (x 1).val = (y 1).val by omega)
    | ⟨1, _⟩ => exact Fin.ext (show n = (y 0).val by omega)

theorem pieces1_cover (X : Vec Ideal S256x64 .i8) (y : S64x256x128.Idx) : ∀ (n : ℕ) (hn : n ≤ 64), (y 0).val < n →
    ∃ p ∈ pieces1 X n hn, y ∈ p.1.set
  | 0, _, h => absurd h (Nat.not_lt_zero _)
  | n + 1, hn, h => by
    have l1 : (y 1).val < 256 := (y 1).isLt
    have l2 : (y 2).val < 128 := (y 2).isLt
    by_cases he : (y 0).val = n
    · refine ⟨_, List.mem_cons_self, ?_⟩
      show y ∈ (Rect.unit (s := S64x256x128) ![n, 0, 0] S1x256x128.size (inb1 n hn)).set
      rw [Rect.mem_set_unit]
      intro a
      fin_cases a <;> simp <;> omega
    · obtain ⟨p, hp, hm⟩ := pieces1_cover X y n (by omega) (by omega)
      exact ⟨p, List.mem_cons_of_mem _ hp, hm⟩

theorem pieces1_canon (X : Vec Ideal S256x64 .i8) (y : S64x256x128.Idx) : View.canon (pieces1 X 64 (le_refl _)) y = sa X y :=
  View.canon_eq_of_allAt _ _ _ (pieces1_cover X y 64 (le_refl _) (y 0).isLt) (pieces1_at X y 64 (le_refl _))

theorem hz2 : (![0, 0] : Fin 2 → Nat) = fun _ => 0 := by decide

/-- The first scratch after a row's first point. -/
theorem scr0 (c : Dev nD) (arg2 : Memref sig .tc .vmem S256x2048 .fp8e4m3) (harg2 : arg2.IsWhole) (x0 : Vec Ideal S256x2048 .fp8e4m3)
    (arg11 : Memref sig .tc .vmem S8x8x8x32x256 .fp8e4m3) :
    arg11.view.read (Elt Ideal) (arg11.view.writes (Elt Ideal) arg11.view.junk (kernelRun0_A.sl.HS0_64 (F := Ideal) c arg2 harg2 x0)) = xm x0 := by
  funext y
  rw [View.read_writes_junk_apply_eq_canon, hs0_eq, pieces0_canon, View.readAt_eq_ld, harg2.read_unread, View.ld_unit_zero hz2 _ x0]

/-- The second scratch after a row's first point. -/
theorem scr1 (c : Dev nD) (arg3 : Memref sig .tc .vmem S256x64 .i8) (harg3 : arg3.IsWhole) (x1 : Vec Ideal S256x64 .i8)
    (arg12 : Memref sig .tc .vmem S64x256x128 .f32) :
    arg12.view.read (Elt Ideal) (arg12.view.writes (Elt Ideal) arg12.view.junk (kernelRun0_A.sl.HS1_64 (F := Ideal) c arg3 harg3 x1)) = sa x1 := by
  funext y
  rw [View.read_writes_junk_apply_eq_canon, hs1_eq, pieces1_canon, View.readAt_eq_ld, harg3.read_unread, View.ld_unit_zero hz2 _ x1]

end Cert.GateUpIdeal.Gen

end
-- ==== Proof.GateUpPoint.lean ====
/- A grid point of `gate_up`: what it stores, from the blocks it loads and from the scratch it finds or makes. -/
module

public import proofs.«01_k».proof.Proof.GateUpOut
public import proofs.«01_k».proof.Proof.GateUpGu
public import proofs.«01_k».proof.Proof.GateUpScr
public import proofs.«01_k».proof.Proof.Gen.GateUpIdeal.Frame

@[expose] public section

set_option maxRecDepth 16384

noncomputable section

open Idealize.ShloMosaic Idealize.ShloMosaic.TcCoe Idealize.SL.Sem
open Cert.Pow (clip amax c448 expo power)

namespace Cert.GateUpIdeal.Gen

/-- The gated values of a tile, from the scratch and the loaded weights and scales. -/
def tile (A : Vec Ideal S8x8x8x32x256 .fp8e4m3) (W4 W5 : Vec Ideal S2048x256 .fp8e4m3) (SA : Vec Ideal S64x256x128 .f32)
    (v3 v8 : Vec Ideal S64x256 .i32) (r l : Fin 256) : Ideal .f32 :=
  gated (prod A W4 SA (k0_pay531 (F := Ideal) v3) r l) (prod A W5 SA (k0_pay532 (F := Ideal) v8) r l)

/-- A tile of products as the end of the point loads it after the loop. -/
def guTile
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (x2 x3 : Vec Ideal S2048x256 .fp8e4m3) (x4 x5 : Vec Ideal S64x256 .i32) (X11 : BufTy.Contents (Elt Ideal) arg11.view.ty)
    (X12 : BufTy.Contents (Elt Ideal) arg12.view.ty) (B : LoadRect S2x256x256) : B.shape.Idx → Ideal .f32 :=
  arg13.view.readCov (Val := Elt Ideal) (pb_k0_t1 (F := Ideal) Variants.none c none i arg2 harg2 arg3 harg3 arg4 harg4 arg5 harg5 arg6 harg6 arg7 harg7 arg8 harg8 arg9 harg9 arg10 harg10
      arg11 harg11 arg12 harg12 arg13 harg13
      (View.readAt (Elt Ideal) arg6.view (Rect.unit ![0, 0] S64x256.size inb_S64x256_S64x256_0_0).toLoadRect (harg6.unread x4))
      (View.readAt (Elt Ideal) arg7.view (Rect.unit ![0, 0] S64x256.size inb_S64x256_S64x256_0_0).toLoadRect (harg7.unread x5))
      (harg4.unread x2) (harg5.unread x3) X11 X12 k0_t1_loop.trips) B

theorem guTile_eq
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (x2 x3 : Vec Ideal S2048x256 .fp8e4m3) (x4 x5 : Vec Ideal S64x256 .i32) (X11 : BufTy.Contents (Elt Ideal) arg11.view.ty)
    (X12 : BufTy.Contents (Elt Ideal) arg12.view.ty) (B : LoadRect S2x256x256) :
    guTile c i arg2 harg2 arg3 harg3 arg4 harg4 arg5 harg5 arg6 harg6 arg7 harg7 arg8 harg8 arg9 harg9 arg10 harg10
      arg11 harg11 arg12 harg12 arg13 harg13
      x2 x3 x4 x5 X11 X12 B = fun j => gu (arg11.view.read (Elt Ideal) X11) x2 x3 (arg12.view.read (Elt Ideal) X12) x4 x5 (B.idx j) := by
  unfold guTile
  rw [gu_read, harg4.read_unread, harg5.read_unread, View.readAt_eq_ld, View.readAt_eq_ld, harg6.read_unread, harg7.read_unread,
    View.ld_unit_zero hz2 _ x4, View.ld_unit_zero hz2 _ x5]

/-- The four loaded tiles are the halves of the gate and of the up products. -/
theorem tiles
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (x2 x3 : Vec Ideal S2048x256 .fp8e4m3) (x4 x5 : Vec Ideal S64x256 .i32) (X11 : BufTy.Contents (Elt Ideal) arg11.view.ty)
    (X12 : BufTy.Contents (Elt Ideal) arg12.view.ty) :
    Tiles (tile (arg11.view.read (Elt Ideal) X11) x2 x3 (arg12.view.read (Elt Ideal) X12) x4 x5)
      (guTile c i arg2 harg2 arg3 harg3 arg4 harg4 arg5 harg5 arg6 harg6 arg7 harg7 arg8 harg8 arg9 harg9 arg10 harg10
      arg11 harg11 arg12 harg12 arg13 harg13
      x2 x3 x4 x5 (X11) (X12) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (X11) (X12) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (X11) (X12) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (X11) (X12) (Rect.unit (s := S2x256x256) ![1, 0, 128] S1x256x128.size inb_S2x256x256_S1x256x128_1_0_128).toLoadRect) := by
  constructor
  · funext j
    refine (p539 _ _ j).trans ?_
    rw [guTile_eq, guTile_eq]
    refine congrArg₂ gated ?_ ?_
    · refine (if_pos rfl).trans ?_
      exact congrArg₂ (fun a b => prod _ _ _ _ a b) (Fin.ext (by show 0 + 1 * (j 0).val = (j 0).val; omega)) (Fin.ext (by show 0 + 1 * (j 1).val = 128 * 0 + (j 1).val; omega))
    · refine (if_neg (show ¬ (1 + 1 * 0 = 0) by decide)).trans ?_
      exact congrArg₂ (fun a b => prod _ _ _ _ a b) (Fin.ext (by show 0 + 1 * (j 0).val = (j 0).val; omega)) (Fin.ext (by show 0 + 1 * (j 1).val = 128 * 0 + (j 1).val; omega))
  · rw [p553]
    funext j
    refine (p539 _ _ j).trans ?_
    rw [guTile_eq, guTile_eq]
    refine congrArg₂ gated ?_ ?_
    · refine (if_pos rfl).trans ?_
      exact congrArg₂ (fun a b => prod _ _ _ _ a b) (Fin.ext (by show 0 + 1 * (j 0).val = (j 0).val; omega)) (Fin.ext (by show 128 + 1 * (j 1).val = 128 * 1 + (j 1).val; omega))
    · refine (if_neg (show ¬ (1 + 1 * 0 = 0) by decide)).trans ?_
      exact congrArg₂ (fun a b => prod _ _ _ _ a b) (Fin.ext (by show 0 + 1 * (j 0).val = (j 0).val; omega)) (Fin.ext (by show 128 + 1 * (j 1).val = 128 * 1 + (j 1).val; omega))

theorem pieces6_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) :
    (kernelRun0_B (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1).1 = L6of
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 128] S1x256x128.size inb_S2x256x256_S1x256x128_1_0_128).toLoadRect) := by
  unfold kernelRun0_B
  rfl

theorem pieces7_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) :
    (kernelRun0_B (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1).2.1 = L7of
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 128] S1x256x128.size inb_S2x256x256_S1x256x128_1_0_128).toLoadRect) := by
  unfold kernelRun0_B
  rfl

theorem pieces8_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) :
    (kernelRun0_B (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1).2.2.1 = L8of
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1) (Rect.unit (s := S2x256x256) ![1, 0, 128] S1x256x128.size inb_S2x256x256_S1x256x128_1_0_128).toLoadRect) := by
  unfold kernelRun0_B
  rfl

theorem pieces6_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) :
    (kernelRun0_A (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 ).1 = L6of
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 128] S1x256x128.size inb_S2x256x256_S1x256x128_1_0_128).toLoadRect) := by
  unfold kernelRun0_A
  rfl

theorem pieces7_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) :
    (kernelRun0_A (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 ).2.1 = L7of
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 128] S1x256x128.size inb_S2x256x256_S1x256x128_1_0_128).toLoadRect) := by
  unfold kernelRun0_A
  rfl

theorem pieces8_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) :
    (kernelRun0_A (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 ).2.2.1 = L8of
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 0] S1x256x128.size inb_S2x256x256_S1x256x128_0_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 0] S1x256x128.size inb_S2x256x256_S1x256x128_1_0_0).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![0, 0, 128] S1x256x128.size inb_S2x256x256_S1x256x128_0_0_128).toLoadRect)
      (guTile c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1)) (Rect.unit (s := S2x256x256) ![1, 0, 128] S1x256x128.size inb_S2x256x256_S1x256x128_1_0_128).toLoadRect) := by
  unfold kernelRun0_A
  rfl

theorem out6_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) (y : S256x256.Idx) :
    out0_B_6 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1 y = codeH (tile xs0 x2 x3 xs1 x4 x5) (y 0) (y 1) := by
  unfold out0_B_6
  rw [View.read_writes_junk_apply_eq_canon, pieces6_B]
  have h := tiles c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1)
  rw [harg11.read_unread, harg12.read_unread] at h
  exact L6of_at h y

theorem out7_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) (y : S1x256x8.Idx) :
    out0_B_7 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1 y = scaleH (tile xs0 x2 x3 xs1 x4 x5) (y 1) ⟨32 * (y 2).val, by have h2 : (y 2).val < 8 := (y 2).isLt; omega⟩ := by
  unfold out0_B_7
  rw [View.read_writes_junk_apply_eq_canon, pieces7_B]
  have h := tiles c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1)
  rw [harg11.read_unread, harg12.read_unread] at h
  exact L7of_at h y

theorem out8_B
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : ¬cond0_0 i)
    (x0 : Vec Ideal S256x2048 .fp8e4m3) (x1 : Vec Ideal S256x64 .i8) (x2 x3 : Vec Ideal S2048x256 .fp8e4m3) (x4 x5 : Vec Ideal S64x256 .i32) (xs0 : Vec Ideal S8x8x8x32x256 .fp8e4m3) (xs1 : Vec Ideal S64x256x128 .f32) (y : S256x256.Idx) :
    out0_B_8 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5 xs0 xs1 y = deqH (tile xs0 x2 x3 xs1 x4 x5) (y 0) (y 1) := by
  unfold out0_B_8
  rw [View.read_writes_junk_apply_eq_canon, pieces8_B]
  have h := tiles c i arg2 harg2 arg3 harg3 arg4 harg4 arg5 harg5 arg6 harg6 arg7 harg7 arg8 harg8 arg9 harg9 arg10 harg10
      arg11 harg11 arg12 harg12 arg13 harg13
      x2 x3 x4 x5 (harg11.unread xs0) (harg12.unread xs1)
  rw [harg11.read_unread, harg12.read_unread] at h
  exact L8of_at h y

theorem out6_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) (y : S256x256.Idx) :
    out0_A_6 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5  y = codeH (tile (xm x0) x2 x3 (sa x1) x4 x5) (y 0) (y 1) := by
  unfold out0_A_6
  rw [View.read_writes_junk_apply_eq_canon, pieces6_A]
  have h := tiles c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1))
  rw [scr0, scr1] at h
  exact L6of_at h y

theorem out7_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) (y : S1x256x8.Idx) :
    out0_A_7 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5  y = scaleH (tile (xm x0) x2 x3 (sa x1) x4 x5) (y 1) ⟨32 * (y 2).val, by have h2 : (y 2).val < 8 := (y 2).isLt; omega⟩ := by
  unfold out0_A_7
  rw [View.read_writes_junk_apply_eq_canon, pieces7_A]
  have h := tiles c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1))
  rw [scr0, scr1] at h
  exact L7of_at h y

theorem out8_A
    (c : Dev nD) (i : grid0.Coords) (arg2 : Memref sig .tc .vmem S256x2048 .fp8e4m3)
    (harg2 : arg2.IsWhole) (arg3 : Memref sig .tc .vmem S256x64 .i8) (harg3 : arg3.IsWhole) (arg4 : Memref sig .tc
    .vmem S2048x256 .fp8e4m3) (harg4 : arg4.IsWhole) (arg5 : Memref sig .tc .vmem S2048x256 .fp8e4m3) (harg5 :
    arg5.IsWhole) (arg6 : Memref sig .tc .vmem S64x256 .i32) (harg6 : arg6.IsWhole) (arg7 : Memref sig .tc .vmem
    S64x256 .i32) (harg7 : arg7.IsWhole) (arg8 : Memref sig .tc .vmem S256x256 .fp8e4m3) (harg8 : arg8.IsWhole) (arg9
    : Memref sig .tc .vmem S1x256x8 .i32) (harg9 : arg9.IsWhole) (arg10 : Memref sig .tc .vmem S256x256 .bf16) (harg10
    : arg10.IsWhole) (arg11 : Memref sig .tc .vmem S8x8x8x32x256 .fp8e4m3) (harg11 : arg11.IsWhole) (arg12 : Memref
    sig .tc .vmem S64x256x128 .f32) (harg12 : arg12.IsWhole) (arg13 : Memref sig .tc .vmem S2x256x256 .f32) (harg13 :
    arg13.IsWhole)
    (hc0 : cond0_0 i)
    (x0 : Vec Ideal S256x2048 .fp8e4m3) (x1 : Vec Ideal S256x64 .i8) (x2 x3 : Vec Ideal S2048x256 .fp8e4m3) (x4 x5 : Vec Ideal S64x256 .i32) (y : S256x256.Idx) :
    out0_A_8 (F := Ideal) c i arg2 harg2 arg3 harg3 arg4 harg4 arg5 harg5 arg6 harg6 arg7 harg7 arg8 harg8 arg9 harg9 arg10 harg10
      arg11 harg11 arg12 harg12 arg13 harg13
      hc0 x0 x1 x2 x3 x4 x5  y = deqH (tile (xm x0) x2 x3 (sa x1) x4 x5) (y 0) (y 1) := by
  unfold out0_A_8
  rw [View.read_writes_junk_apply_eq_canon, pieces8_A]
  have h := tiles c i arg2 harg2 arg3 harg3 arg4 harg4 arg5 harg5 arg6 harg6 arg7 harg7 arg8 harg8 arg9 harg9 arg10 harg10
      arg11 harg11 arg12 harg12 arg13 harg13
      x2 x3 x4 x5 (arg11.view.writes (Elt Ideal) arg11.view.junk (kernelRun0_A.sl.HS0_64 (F := Ideal) c arg2 harg2 x0)) (arg12.view.writes (Elt Ideal) arg12.view.junk (kernelRun0_A.sl.HS1_64 (F := Ideal) c arg3 harg3 x1))
  rw [scr0, scr1] at h
  exact L8of_at h y

end Cert.GateUpIdeal.Gen

end
-- ==== Proof.GateUpHeld.lean ====
/- The scratch of `gate_up` along a row of the grid, and what every point stores. -/
module

public import proofs.«01_k».proof.Proof.GateUpPoint
public import proofs.«01_k».proof.Defs

@[expose] public section

set_option maxRecDepth 16384

noncomputable section

open Idealize.ShloMosaic Idealize.ShloMosaic.TcCoe Idealize.SL.Sem
open Idealize.ShloMosaic.Pipeline (Dat)

namespace Cert.GateUpIdeal.Value

open Cert.GateUpIdeal Cert.GateUpIdeal.Gen

variable (m : (ℓ : Loc nD τ sig) → Buf (Elt Ideal) ℓ)

theorem idxX : ∀ t : Fin cfg0.N, win0_0.index t = ![t.val / 24, 0] ∧ win0_1.index t = ![t.val / 24, 0] :=
  (by decide +kernel : ∀ t : Fin grid0.N, _)
theorem idxW : ∀ t : Fin cfg0.N, win0_2.index t = ![0, t.val % 24] ∧ win0_3.index t = ![0, 24 + t.val % 24] :=
  (by decide +kernel : ∀ t : Fin grid0.N, _)
theorem idxS : ∀ t : Fin cfg0.N, win0_4.index t = ![0, t.val % 24] ∧ win0_5.index t = ![0, 24 + t.val % 24] :=
  (by decide +kernel : ∀ t : Fin grid0.N, _)
theorem idxO : ∀ t : Fin cfg0.N, win0_6.index t = ![t.val / 24, t.val % 24] ∧ win0_7.index t = ![t.val % 24, t.val / 24, 0]
    ∧ win0_8.index t = ![t.val / 24, t.val % 24] :=
  (by decide +kernel : ∀ t : Fin grid0.N, _)

theorem lt_N (t : Fin cfg0.N) : t.val < 1536 := t.isLt

/-- The scales of the weight as the region finds them: the argument's bytes widened. -/
theorem scales (c : Dev nD) : V m c main_v0 = extui 32 (m ((c : Thread nD τ).loc main_arg3)) natLt_8_32 := by
  entry_read
  rfl

/-! ## The blocks a point loads -/

theorem blk0 (c : Dev nD) (t : Fin cfg0.N) (y : S256x2048.Idx) : iblk m c 0 t y
    = m ((c : Thread nD τ).loc main_arg0) (ix2 ⟨t.val / 24 * 256 + (y 0).val, by have := lt_N t; have := (y 0).isLt; change _ < 256 at this; omega⟩ (y 1)) := by
  blk_point [iblk, V_main_arg0, idxX t]

theorem blk1 (c : Dev nD) (t : Fin cfg0.N) (y : S256x64.Idx) : iblk m c 1 t y
    = m ((c : Thread nD τ).loc main_arg1) (ix2 ⟨t.val / 24 * 256 + (y 0).val, by have := lt_N t; have := (y 0).isLt; change _ < 256 at this; omega⟩ (y 1)) := by
  blk_point [iblk, V_main_arg1, idxX t]

theorem blk2 (c : Dev nD) (t : Fin cfg0.N) (y : S2048x256.Idx) : iblk m c 2 t y
    = m ((c : Thread nD τ).loc main_arg2) (ix2 (y 0) ⟨t.val % 24 * 256 + (y 1).val, by have := (y 1).isLt; change _ < 256 at this; omega⟩) := by
  blk_point [iblk, V_main_arg2, idxW t]

theorem blk3 (c : Dev nD) (t : Fin cfg0.N) (y : S2048x256.Idx) : iblk m c 3 t y
    = m ((c : Thread nD τ).loc main_arg2) (ix2 (y 0) ⟨6144 + (t.val % 24 * 256 + (y 1).val), by have := (y 1).isLt; change _ < 256 at this; omega⟩) := by
  blk_point [iblk, V_main_arg2, idxW t]

theorem blk4 (c : Dev nD) (t : Fin cfg0.N) (y : S64x256.Idx) : iblk m c 4 t y
    = (m ((c : Thread nD τ).loc main_arg3) (ix2 (y 0) ⟨t.val % 24 * 256 + (y 1).val, by have := (y 1).isLt; change _ < 256 at this; omega⟩)).setWidth 32 := by
  blk_point [iblk, scales, idxS t]

theorem blk5 (c : Dev nD) (t : Fin cfg0.N) (y : S64x256.Idx) : iblk m c 5 t y
    = (m ((c : Thread nD τ).loc main_arg3) (ix2 (y 0) ⟨6144 + (t.val % 24 * 256 + (y 1).val), by have := (y 1).isLt; change _ < 256 at this; omega⟩)).setWidth 32 := by
  blk_point [iblk, scales, idxS t]

/-! ## The scratch -/

theorem same0 (c : Dev nD) (t t' : Fin cfg0.N) (h : t.val / 24 = t'.val / 24) : iblk m c 0 t = iblk m c 0 t' := by
  funext y
  refine (blk0 m c t y).trans (Eq.trans (congrArg _ ?_) (blk0 m c t' y).symm)
  funext a
  match a with
  | ⟨0, _⟩ => exact Fin.ext (show t.val / 24 * 256 + (y 0).val = t'.val / 24 * 256 + (y 0).val by rw [h])
  | ⟨1, _⟩ => rfl

theorem same1 (c : Dev nD) (t t' : Fin cfg0.N) (h : t.val / 24 = t'.val / 24) : iblk m c 1 t = iblk m c 1 t' := by
  funext y
  refine (blk1 m c t y).trans (Eq.trans (congrArg _ ?_) (blk1 m c t' y).symm)
  funext a
  match a with
  | ⟨0, _⟩ => exact Fin.ext (show t.val / 24 * 256 + (y 0).val = t'.val / 24 * 256 + (y 0).val by rw [h])
  | ⟨1, _⟩ => rfl

/-- At every point the scratch is what the row's first point made of the row's codes and scales. -/
theorem held (c : Dev nD) : ∀ (n : ℕ) (hn : n < cfg0.N),
    (outsAt0 m c n hn).2.2.2.1 = xm (iblk m c 0 ⟨n, hn⟩) ∧ (outsAt0 m c n hn).2.2.2.2 = sa (iblk m c 1 ⟨n, hn⟩) := by
  have first : ∀ t : Fin cfg0.N, t.val % 24 = 0 →
      (outsAt0 m c t.val t.isLt).2.2.2.1 = xm (iblk m c 0 t) ∧ (outsAt0 m c t.val t.isLt).2.2.2.2 = sa (iblk m c 1 t) := by
    intro t h0
    rw [outsAt0_A m c t h0]; dsimp only
    exact ⟨scr0 c (ms0_0 t) (hs0_0 t) (iblk m c 0 t) scM0_0, scr1 c (ms0_1 t) (hs0_1 t) (iblk m c 1 t) scM0_1⟩
  intro n
  induction n with
  | zero => intro hn; exact first ⟨0, hn⟩ rfl
  | succ n ih =>
    intro hn
    by_cases h0 : (n + 1) % 24 = 0
    · exact first ⟨n + 1, hn⟩ h0
    · have h := outsAt0_B m c ⟨n + 1, hn⟩ h0
      obtain ⟨i0, i1⟩ := ih (Nat.lt_of_succ_lt hn)
      have hd : n / 24 = (n + 1) / 24 := by omega
      refine ⟨(congrArg (fun p => p.2.2.2.1) h).trans (i0.trans (congrArg xm (same0 m c ⟨n, Nat.lt_of_succ_lt hn⟩ ⟨n + 1, hn⟩ hd))),
        (congrArg (fun p => p.2.2.2.2) h).trans (i1.trans (congrArg sa (same1 m c ⟨n, Nat.lt_of_succ_lt hn⟩ ⟨n + 1, hn⟩ hd)))⟩

theorem before (c : Dev nD) (t : Fin cfg0.N) (h0 : ¬ t.val % 24 = 0) (h : t.val - 1 < cfg0.N) :
    (outsAt0 m c (t.val - 1) h).2.2.2.1 = xm (iblk m c 0 t) ∧ (outsAt0 m c (t.val - 1) h).2.2.2.2 = sa (iblk m c 1 t) := by
  obtain ⟨i0, i1⟩ := held m c (t.val - 1) h
  have hd : (t.val - 1) / 24 = t.val / 24 := by omega
  exact ⟨i0.trans (congrArg xm (same0 m c ⟨t.val - 1, h⟩ t hd)), i1.trans (congrArg sa (same1 m c ⟨t.val - 1, h⟩ t hd))⟩

/-- The gated values of a point's tile. -/
def H (c : Dev nD) (t : Fin cfg0.N) : Fin 256 → Fin 256 → Ideal .f32 :=
  tile (xm (iblk m c 0 t)) (iblk m c 2 t) (iblk m c 3 t) (sa (iblk m c 1 t)) (iblk m c 4 t) (iblk m c 5 t)

theorem stored6 (c : Dev nD) (t : Fin cfg0.N) (y : S256x256.Idx) :
    (outsAt0 m c t.val t.isLt).1 y = codeH (H m c t) (y 0) (y 1) := by
  by_cases h0 : t.val % 24 = 0
  · rw [outsAt0_A m c t h0]; dsimp only
    exact out6_A _ _ _ _ _ _ _ _ _ _ _ _ _ _ _ _ _ _ _ _ _ _ _ _ _ _ _ _ _ _ _ _ _ _
  · rw [outsAt0_B m c t h0]; dsimp only
    obtain ⟨b0, b1⟩ := before m c t h0 (Nat.lt_of_le_of_lt (Nat.sub_le _ _) t.isLt)
    rw [b0, b1]
    exact out6_B _ _ _ _ _ _ _ _ _ _ _ _ _ _ _ _ _ _ _ _ _ _ _ _ _ _ _ _ _ _ _ _ _ _ _ _

theorem stored7 (c : Dev nD) (t : Fin cfg0.N) (y : S1x256x8.Idx) :
    (outsAt0 m c t.val t.isLt).2.1 y = scaleH (H m c t) (y 1) ⟨32 * (y 2).val, by have := (y 2).isLt; change _ < 8 at this; omega⟩ := by
  by_cases h0 : t.val % 24 = 0
  · rw [outsAt0_A m c t h0]; dsimp only
    exact out7_A _ _ _ _ _ _ _ _ _ _ _ _ _ _ _ _ _ _ _ _ _ _ _ _ _ _ _ _ _ _ _ _ _ _
  · rw [outsAt0_B m c t h0]; dsimp only
    obtain ⟨b0, b1⟩ := before m c t h0 (Nat.lt_of_le_of_lt (Nat.sub_le _ _) t.isLt)
    rw [b0, b1]
    exact out7_B _ _ _ _ _ _ _ _ _ _ _ _ _ _ _ _ _ _ _ _ _ _ _ _ _ _ _ _ _ _ _ _ _ _ _ _

theorem stored8 (c : Dev nD) (t : Fin cfg0.N) (y : S256x256.Idx) :
    (outsAt0 m c t.val t.isLt).2.2.1 y = deqH (H m c t) (y 0) (y 1) := by
  by_cases h0 : t.val % 24 = 0
  · rw [outsAt0_A m c t h0]; dsimp only
    exact out8_A _ _ _ _ _ _ _ _ _ _ _ _ _ _ _ _ _ _ _ _ _ _ _ _ _ _ _ _ _ _ _ _ _ _
  · rw [outsAt0_B m c t h0]; dsimp only
    obtain ⟨b0, b1⟩ := before m c t h0 (Nat.lt_of_le_of_lt (Nat.sub_le _ _) t.isLt)
    rw [b0, b1]
    exact out8_B _ _ _ _ _ _ _ _ _ _ _ _ _ _ _ _ _ _ _ _ _ _ _ _ _ _ _ _ _ _ _ _ _ _ _ _

end Cert.GateUpIdeal.Value

end
-- ==== Proof.GateUpSum.lean ====
/- The masked product as a plain one: the scratch holds a block's code only at its own place and zero elsewhere, so the sum over
   256 is the sum over the 32 codes of the block. -/
module

public import proofs.«01_k».proof.Proof.GateUpPoint

@[expose] public section

set_option maxRecDepth 16384

noncomputable section

open Idealize.ShloMosaic Idealize.ShloMosaic.TcCoe Idealize.SL.Sem
open Cert.Pow (power field)

namespace Cert.GateUpIdeal.Gen

/-- A block's place among the 256 of its scratch row. -/
def place (g : Fin 64) (k : Fin 32) : Fin 256 := ⟨g.val % 8 * 32 + k.val, by omega⟩

theorem place_inj (g : Fin 64) : Function.Injective (place g) := fun a b h => by
  have h' : g.val % 8 * 32 + a.val = g.val % 8 * 32 + b.val := congrArg Fin.val h
  exact Fin.ext (by omega)

theorem xm_in (X : Vec Ideal S256x2048 .fp8e4m3) (r : Fin 256) (g : Fin 64) (k : Fin 32) :
    xm X (ix5 ⟨r.val / 32, by omega⟩ ⟨g.val / 8, by omega⟩ ⟨g.val % 8, by omega⟩ ⟨r.val % 32, by omega⟩ (place g k))
      = X (ix2 r ⟨g.val * 32 + k.val, by omega⟩) := by
  refine (if_pos (show (g.val % 8 * 32 + k.val) / 32 = g.val % 8 by omega)).trans (congrArg X ?_)
  funext a
  match a with
  | ⟨0, _⟩ => exact Fin.ext (show r.val / 32 * 32 + r.val % 32 = r.val by omega)
  | ⟨1, _⟩ => exact Fin.ext (show g.val / 8 * 256 + (g.val % 8 * 32 + k.val) = g.val * 32 + k.val by omega)

theorem xm_out (X : Vec Ideal S256x2048 .fp8e4m3) (r : Fin 256) (g : Fin 64) (n : Fin 256) (h : n ∉ Set.range (place g)) :
    xm X (ix5 ⟨r.val / 32, by omega⟩ ⟨g.val / 8, by omega⟩ ⟨g.val % 8, by omega⟩ ⟨r.val % 32, by omega⟩ n) = (0 : EReal) := by
  refine if_neg (show ¬ (n.val / 32 = g.val % 8) from fun e => h ⟨⟨n.val % 32, by omega⟩, Fin.ext ?_⟩)
  show g.val % 8 * 32 + n.val % 32 = n.val
  omega

theorem sum_block (X : Vec Ideal S256x2048 .fp8e4m3) (W : Vec Ideal S2048x256 .fp8e4m3) (r l : Fin 256) (g : Fin 64) :
    (∑ n : Fin 256, (xm X (ix5 ⟨r.val / 32, by omega⟩ ⟨g.val / 8, by omega⟩ ⟨g.val % 8, by omega⟩ ⟨r.val % 32, by omega⟩ n) : EReal)
      * W (ix2 ⟨g.val / 8 * 256 + n.val, by omega⟩ l))
    = ∑ k : Fin 32, (X (ix2 r ⟨g.val * 32 + k.val, by omega⟩) : EReal) * W (ix2 ⟨g.val * 32 + k.val, by omega⟩ l) := by
  refine (Fintype.sum_of_injective (place g) (place_inj g) _ _ (fun n h => ?_) fun k => ?_).symm
  · exact (congrArg (fun a : EReal => a * W (ix2 ⟨g.val / 8 * 256 + n.val, by omega⟩ l)) (xm_out X r g n h)).trans (zero_mul _)
  · refine congrArg₂ (fun a b : EReal => a * b) (xm_in X r g k).symm (congrArg W ?_)
    funext a
    match a with
    | ⟨0, _⟩ => exact Fin.ext (show g.val * 32 + k.val = g.val / 8 * 256 + (g.val % 8 * 32 + k.val) by omega)
    | ⟨1, _⟩ => rfl

theorem sa_at (S : Vec Ideal S256x64 .i8) (g : Fin 64) (r : Fin 256) (l : Fin 128) :
    sa S (ix3 g r l) = power ((S (ix2 r g)).setWidth 32 - 127#32) :=
  Cert.Pow.field_setWidth (S (ix2 r g))

theorem pay531_at (v : Vec Ideal S64x256 .i32) (g : Fin 64) (l : Fin 256) : k0_pay531 (F := Ideal) v (ix2 g l) = field (v (ix2 g l)) := by
  pointwise [k0_pay531]

theorem pay532_at (v : Vec Ideal S64x256 .i32) (g : Fin 64) (l : Fin 256) : k0_pay532 (F := Ideal) v (ix2 g l) = field (v (ix2 g l)) := by
  pointwise [k0_pay532]

/-- One product of a tile: by blocks of 32, each block scaled by its two powers of two. -/
theorem prod_eq (X : Vec Ideal S256x2048 .fp8e4m3) (W : Vec Ideal S2048x256 .fp8e4m3) (S : Vec Ideal S256x64 .i8) (SW : FVec Ideal S64x256 .f32)
    (r l : Fin 256) :
    prod (xm X) W (sa S) SW r l = ∑ g : Fin 64, (∑ k : Fin 32, (X (ix2 r ⟨g.val * 32 + k.val, by omega⟩) : EReal) * W (ix2 ⟨g.val * 32 + k.val, by omega⟩ l))
      * power ((S (ix2 r g)).setWidth 32 - 127#32) * SW (ix2 g l) := by
  refine Finset.sum_congr rfl fun g _ => ?_
  exact congrArg₂ (fun a b : EReal => a * b * SW (ix2 g l)) (sum_block X W r l g) (sa_at S g r _)

end Cert.GateUpIdeal.Gen

end
-- ==== Proof.GateUpRefRun.lean ====
/- What the three result arrays of the reference of the gate-up call hold after its run: each is one function `G4`, `G5`, `G6`
   of the argument arrays, since the reference has one grid point and every block is the whole array. -/
module

public import proofs.«01_k».proof.Proof.Gen.GateUpRefIdeal.Frame
public import Idealize.ShloMosaic.Lib.Pipeline.Value

@[expose] public section

noncomputable section

namespace Cert.GateUpRefIdeal.Value

open Cert.GateUpRefIdeal Cert.GateUpRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S16384x6144.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S24x16384x8.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x6144.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x2048.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 2048 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x64.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 64 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2048x12288.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 12288 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S64x12288.Idx) : ((cfg0.win 3).blk t).view.emb j = j := by
  obtain ⟨e0, e1⟩ := idx_zero3 t
  funext a; apply Fin.ext
  match a with
  | ⟨0, _⟩ => show win0_3.index t (0 : Fin 2) * 64 + 1 * (j 0).val = (j 0).val; omega
  | ⟨1, _⟩ => show win0_3.index t (1 : Fin 2) * 12288 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16384x6144.Idx) : ((cfg0.win 4).blk t).view.emb j = j := by
  obtain ⟨e0, e1⟩ := idx_zero4 t
  funext a; apply Fin.ext
  match a with
  | ⟨0, _⟩ => show win0_4.index t (0 : Fin 2) * 16384 + 1 * (j 0).val = (j 0).val; omega
  | ⟨1, _⟩ => show win0_4.index t (1 : Fin 2) * 6144 + 1 * (j 1).val = (j 1).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S24x16384x8.Idx) : ((cfg0.win 5).blk t).view.emb j = j := by
  obtain ⟨e0, e1, e2⟩ := idx_zero5 t
  funext a; apply Fin.ext
  match a with
  | ⟨0, _⟩ => show win0_5.index t (0 : Fin 3) * 24 + 1 * (j 0).val = (j 0).val; omega
  | ⟨1, _⟩ => show win0_5.index t (1 : Fin 3) * 16384 + 1 * (j 1).val = (j 1).val; omega
  | ⟨2, _⟩ => show win0_5.index t (2 : Fin 3) * 8 + 1 * (j 2).val = (j 2).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x6144.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 6144 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S16384x2048 .fp8e4m3) (a1 : Vec F S16384x64 .i8) (a2 : Vec F S2048x12288 .fp8e4m3) (a3 : Vec F S64x12288 .i8) : Vec F S16384x6144 .fp8e4m3 :=
  k0_pay1 (k0_pay13 a0 a1 a2 a3) (Scalar.ofBits .f32 0xC3E00000#32)

/-- The one store through the whole rectangle leaves its payload. -/
theorem out4_eq (a0 : Vec F S16384x2048 .fp8e4m3) (a1 : Vec F S16384x64 .i8) (a2 : Vec F S2048x12288 .fp8e4m3) (a3 : Vec F S64x12288 .i8) : out0_4 (F := F) a0 a1 a2 a3 = G4 a0 a1 a2 a3 := by
  unfold out0_4
  rw [View.canon_unit_zero hz4]

/-- Cutting the point's block out of `X` and reading `X` through the block's view give the same. -/
theorem cut4_eq (t : Fin cfg0.N) (X : Vec F S16384x6144 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S16384x6144.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S16384x2048 .fp8e4m3) (a1 : Vec F S16384x64 .i8) (a2 : Vec F S2048x12288 .fp8e4m3) (a3 : Vec F S64x12288 .i8) : Vec F S24x16384x8 .i32 :=
  k0_pay3 (k0_pay12 a0 a1 a2 a3)

/-- The one store through the whole rectangle leaves its payload. -/
theorem out5_eq (a0 : Vec F S16384x2048 .fp8e4m3) (a1 : Vec F S16384x64 .i8) (a2 : Vec F S2048x12288 .fp8e4m3) (a3 : Vec F S64x12288 .i8) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S24x16384x8 .i32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S24x16384x8.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S16384x2048 .fp8e4m3) (a1 : Vec F S16384x64 .i8) (a2 : Vec F S2048x12288 .fp8e4m3) (a3 : Vec F S64x12288 .i8) : Vec F S16384x6144 .bf16 :=
  k0_pay4 (k0_pay12 a0 a1 a2 a3) (k0_pay13 a0 a1 a2 a3) (Scalar.ofBits .f32 0xC3E00000#32)

/-- The one store through the whole rectangle leaves its payload. -/
theorem out6_eq (a0 : Vec F S16384x2048 .fp8e4m3) (a1 : Vec F S16384x64 .i8) (a2 : Vec F S2048x12288 .fp8e4m3) (a3 : Vec F S64x12288 .i8) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S16384x6144 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S16384x6144.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.GateUpRefIdeal.Value

end
-- ==== Proof.GateUpRef.lean ====
/- The reference of the gate-up call, read at an index. -/
module

public import proofs.«01_k».proof.Proof.GateUpRefRun
public import Idealize.ShloMosaic.Lib.Pointwise
public import Idealize.ShloMosaic.Lib.IdealHost
public import proofs.«01_k».proof.Proof.VSearch

@[expose] public section

set_option maxRecDepth 16384

noncomputable section

open Idealize.ShloMosaic Idealize.ShloMosaic.TcCoe
open Cert.Pow (amax c448 expo power clip)

namespace Cert.GateUpRefIdeal.Gen

open Cert.GateUpRefIdeal

/-! ## The products -/

theorem dot_at (A : FVec Ideal S64x16384x32 .f32) (B : FVec Ideal S64x32x12288 .f32) (j : S64x16384x12288.Idx) :
    matmul dot_S64x16384x32_S64x32x12288_S64x16384x12288_2_1_1_2_0_0 none A B (constant S64x16384x12288 .f32 0x00000000#32) j
      = ∑ k : Fin 32, (A (ix3 (j 0) (j 1) k) * B (ix3 (j 0) k (j 2)) : EReal) := by
  pointwise

theorem left_at (v0 : FVec Ideal S16384x2048 .f32) (j : S64x16384x32.Idx) :
    transpose S64x16384x32 [1, 0, 2] (shapeCast S16384x64x32 v0 shapeCasts_S16384x2048_S16384x64x32) transposes_S16384x64x32_p1_0_2_S64x16384x32 j
      = v0 (ix2 (j 1) ⟨(j 0).val * 32 + (j 2).val, by have h0 := (j 0).isLt; have h1 := (j 2).isLt; change _ < 64 at h0; change _ < 32 at h1; omega⟩) := by
  pointwise

theorem right_at (v15 : FVec Ideal S2048x12288 .f32) (j : S64x32x12288.Idx) :
    shapeCast S64x32x12288 v15 shapeCasts_S2048x12288_S64x32x12288 j
      = v15 (ix2 ⟨(j 0).val * 32 + (j 1).val, by have h0 := (j 0).isLt; have h1 := (j 1).isLt; change _ < 64 at h0; change _ < 32 at h1; omega⟩ (j 2)) := by
  pointwise

theorem scale_a (w : FVec Ideal S16384x64 .f32) (j : S64x16384x12288.Idx) :
    broadcastTo S64x16384x12288 (shapeCast S64x16384x1 (transpose S64x16384 [1, 0] w transposes_S16384x64_p1_0_S64x16384) shapeCasts_S64x16384_S64x16384x1) broadcasts_S64x16384x1_S64x16384x12288 j
      = w (ix2 (j 1) (j 0)) := by
  pointwise

theorem p5 (v0 : Vec Ideal S16384x2048 .fp8e4m3) (v1 : Vec Ideal S16384x64 .i8) (v15 : Vec Ideal S2048x12288 .fp8e4m3) (j : S64x16384x12288.Idx) :
    k0_pay5 (F := Ideal) v0 v1 v15 j = ((∑ k : Fin 32,
        (v0 (ix2 (j 1) ⟨(j 0).val * 32 + k.val, by have h0 := (j 0).isLt; change _ < 64 at h0; omega⟩) : EReal)
          * v15 (ix2 ⟨(j 0).val * 32 + k.val, by have h0 := (j 0).isLt; change _ < 64 at h0; omega⟩ (j 2)))
      * power ((v1 (ix2 (j 1) (j 0))).setWidth 32 - 127#32) : EReal) := by
  unfold k0_pay5
  refine congrArg₂ (fun a b : EReal => a * b) ?_ ?_
  · refine (dot_at _ _ j).trans (Finset.sum_congr rfl fun k _ => ?_)
    exact congrArg₂ (fun a b : EReal => a * b) (left_at v0 _) (right_at v15 _)
  · refine (scale_a _ j).trans ?_
    unfold power
    rw [← Ideal.ofBits_zero_f32]
    rfl

theorem p6 (v16 : Vec Ideal S64x12288 .i8) (j : S64x1x12288.Idx) :
    k0_pay6 (F := Ideal) v16 j = power ((v16 (ix2 (j 0) (j 2))).setWidth 32 - 127#32) := by
  have e : ∀ w : FVec Ideal S64x12288 .f32, shapeCast S64x1x12288 w shapeCasts_S64x12288_S64x1x12288 j = w (ix2 (j 0) (j 2)) := by
    intro w; pointwise
  unfold k0_pay6
  refine (e _).trans ?_
  unfold power
  rw [← Ideal.ofBits_zero_f32]
  rfl

/-! ## The gated values -/

theorem sum_at (v : FVec Ideal S64x16384x12288 .f32) (j : S16384x12288.Idx) :
    multiReduction (F := Ideal) .add [0] S16384x12288 v 0x00000000#32 reduces_S64x16384x12288_S16384x12288 (.inl rfl) rfl j
      = ∑ g : Fin 64, (v (ix3 g (j 0) (j 1)) : EReal) := by
  pointwise

theorem bcast_w (w : FVec Ideal S64x1x12288 .f32) (j : S64x16384x12288.Idx) :
    broadcastTo S64x16384x12288 w broadcasts_S64x1x12288_S64x16384x12288 j = w (ix3 (j 0) 0 (j 2)) := by
  pointwise

/-- The product of a row and a column, group by group. -/
def proj (v39 : FVec Ideal S64x16384x12288 .f32) (v40 : FVec Ideal S64x1x12288 .f32) (r : Fin 16384) (l : Fin 12288) : EReal :=
  ∑ g : Fin 64, (v39 (ix3 g r l) * v40 (ix3 g 0 l) : EReal)

/-- The gated value. -/
def gatedAt (v39 : FVec Ideal S64x16384x12288 .f32) (v40 : FVec Ideal S64x1x12288 .f32) (r : Fin 16384) (l : Fin 6144) : Ideal .f32 :=
  (proj v39 v40 r ⟨l.val, by omega⟩ * Ideal.logistic (proj v39 v40 r ⟨l.val, by omega⟩) * proj v39 v40 r ⟨6144 + l.val, by omega⟩ : EReal)

theorem proj_at (v39 : FVec Ideal S64x16384x12288 .f32) (v40 : FVec Ideal S64x1x12288 .f32) (j : S16384x12288.Idx) :
    multiReduction (F := Ideal) .add [0] S16384x12288 (mulf v39 (broadcastTo S64x16384x12288 v40 broadcasts_S64x1x12288_S64x16384x12288)) 0x00000000#32 reduces_S64x16384x12288_S16384x12288 (.inl rfl) rfl j
      = proj v39 v40 (j 0) (j 1) := by
  refine (sum_at _ j).trans (Finset.sum_congr rfl fun g _ => ?_)
  exact congrArg (fun b : EReal => v39 (ix3 g (j 0) (j 1)) * b) (bcast_w v40 _)

theorem cast192 (w : FVec Ideal S16384x6144 .f32) (j : S16384x192x32.Idx) : shapeCast S16384x192x32 w shapeCasts_S16384x6144_S16384x192x32 j
    = w (ix2 (j 0) ⟨(j 1).val * 32 + (j 2).val, by have h0 := (j 1).isLt; have h1 := (j 2).isLt; change _ < 192 at h0; change _ < 32 at h1; omega⟩) := by
  pointwise

theorem slice_gate (V : FVec Ideal S16384x12288 .f32) (j : S16384x6144.Idx) :
    extractStridedSlice S16384x6144 ![0, 0] V slices_S16384x12288_o0_0_S16384x6144 j
      = V (ix2 (j 0) ⟨(j 1).val, by have h1 := (j 1).isLt; change _ < 6144 at h1; omega⟩) := by
  refine congrArg V ?_
  funext a
  match a with
  | ⟨0, _⟩ => exact Fin.ext (Nat.zero_add _)
  | ⟨1, _⟩ => exact Fin.ext (Nat.zero_add _)

theorem slice_up (V : FVec Ideal S16384x12288 .f32) (j : S16384x6144.Idx) :
    extractStridedSlice S16384x6144 ![0, 6144] V slices_S16384x12288_o0_6144_S16384x6144 j
      = V (ix2 (j 0) ⟨6144 + (j 1).val, by have h1 := (j 1).isLt; change _ < 6144 at h1; omega⟩) := by
  refine congrArg V ?_
  funext a
  match a with
  | ⟨0, _⟩ => exact Fin.ext (Nat.zero_add _)
  | ⟨1, _⟩ => rfl

theorem gate_at (V : FVec Ideal S16384x12288 .f32) (j : S16384x6144.Idx) :
    mulf (mulf (extractStridedSlice S16384x6144 ![0, 0] V slices_S16384x12288_o0_0_S16384x6144)
        (logistic (extractStridedSlice S16384x6144 ![0, 0] V slices_S16384x12288_o0_0_S16384x6144)))
      (extractStridedSlice S16384x6144 ![0, 6144] V slices_S16384x12288_o0_6144_S16384x6144) j
    = (V (ix2 (j 0) ⟨(j 1).val, by have h1 := (j 1).isLt; change _ < 6144 at h1; omega⟩)
        * Ideal.logistic (V (ix2 (j 0) ⟨(j 1).val, by have h1 := (j 1).isLt; change _ < 6144 at h1; omega⟩))
        * V (ix2 (j 0) ⟨6144 + (j 1).val, by have h1 := (j 1).isLt; change _ < 6144 at h1; omega⟩) : EReal) :=
  congrArg₂ (fun a b : EReal => a * Ideal.logistic a * b) (slice_gate V j) (slice_up V j)

theorem p7 (v39 : FVec Ideal S64x16384x12288 .f32) (v40 : FVec Ideal S64x1x12288 .f32) (j : S16384x192x32.Idx) :
    k0_pay7 (F := Ideal) v39 v40 j = gatedAt v39 v40 (j 0) ⟨(j 1).val * 32 + (j 2).val, by have h0 := (j 1).isLt; have h1 := (j 2).isLt; change _ < 192 at h0; change _ < 32 at h1; omega⟩ := by
  unfold k0_pay7
  refine (cast192 _ j).trans ((gate_at _ _).trans ?_)
  exact congrArg₂ (fun a b : EReal => a * Ideal.logistic a * b) (proj_at v39 v40 _) (proj_at v39 v40 _)

/-! ## The block quantiser -/

theorem cast_up (w : FVec Ideal S16384x192 .f32) (j : S16384x192x1.Idx) : shapeCast S16384x192x1 w shapeCasts_S16384x192_S16384x192x1 j = w (ix2 (j 0) (j 1)) := by
  pointwise

theorem cast_up_i (w : IVec S16384x192 32) (j : S16384x192x1.Idx) : shapeCast S16384x192x1 w shapeCasts_S16384x192_S16384x192x1 j = w (ix2 (j 0) (j 1)) := by
  pointwise

theorem cast_down (w : FVec Ideal S16384x192 .f32) : shapeCast S16384x192 (shapeCast S16384x192x1 w shapeCasts_S16384x192_S16384x192x1) shapeCasts_S16384x192x1_S16384x192 = w := by
  funext j
  idx_vars j
  pointwise

theorem p_max (v : FVec Ideal S16384x192x32 .f32) (j : S16384x192.Idx) : multiReduction (F := Ideal) .maximumf [2] S16384x192 (absf v) 0xFF800000#32 reduces_S16384x192x32_S16384x192 (.inl rfl) rfl j
   = amax (fun k => v (ix3 (j 0) (j 1) k)) := by
  pointwise [amax]

theorem p_count (t : FVec Ideal S16384x192 .f32) (j : S16384x192.Idx) :
    multiReductionI .add [2] S16384x192 (extui 32 (cmpf .oge (broadcastTo S16384x192x253 (shapeCast S16384x192x1 t shapeCasts_S16384x192_S16384x192x1) broadcasts_S16384x192x1_S16384x192x253)
      (exp2 (sitofp .f32 (subi (iota .tc S16384x192x253 32 [2] iota_S16384x192x253_d2_w32) (broadcast S16384x192x253 126#32))))) natLt_1_32) 0#32 reduces_S16384x192x253_S16384x192 rfl j
      = BitVec.ofNat 32 (Cert.Pow.count (t j)) := by
  rw [← Cert.Pow.count_fold]
  pointwise

theorem p8_sel (a : FVec Ideal S16384x192 .f32) (n : IVec S16384x192 32) (j : S16384x192x1.Idx) :
    select (cmpf .oeq (shapeCast S16384x192x1 a shapeCasts_S16384x192_S16384x192x1) (broadcast S16384x192x1 (Scalar.ofBits .f32 0x00000000#32 : Ideal .f32)))
      (broadcast S16384x192x1 0#32) (shapeCast S16384x192x1 (subi n (broadcast S16384x192 126#32)) shapeCasts_S16384x192_S16384x192x1) j
      = Scalar.select (Ideal.cmp .oeq (a (ix2 (j 0) (j 1))) 0) 0#32 (n (ix2 (j 0) (j 1)) - 126#32) := by
  show Scalar.select (Ideal.cmp .oeq _ (Ideal.ofBits .f32 0#32)) 0#32 _ = _
  rw [cast_up, cast_up_i, Ideal.ofBits_zero_f32]
  rfl

theorem p8_mul (a : FVec Ideal S16384x192 .f32) (j : S16384x192.Idx) :
    mulf a (broadcast S16384x192 (Scalar.ofBits .f32 0x3B124925#32 : Ideal .f32)) j = a j * c448 := rfl

/-- The largest magnitude of a block. -/
def gmax (v39 : FVec Ideal S64x16384x12288 .f32) (v40 : FVec Ideal S64x1x12288 .f32) (r : Fin 16384) (b : Fin 192) : Ideal .f32 :=
  amax fun k : Fin 32 => gatedAt v39 v40 r ⟨b.val * 32 + k.val, by omega⟩

/-- The block exponent. -/
theorem p8 (v39 : FVec Ideal S64x16384x12288 .f32) (v40 : FVec Ideal S64x1x12288 .f32) (j : S16384x192x1.Idx) :
    k0_pay8 (F := Ideal) v39 v40 j = expo (gmax v39 v40 (j 0) (j 1)) c448 := by
  unfold k0_pay8
  rw [cast_down]
  refine (p8_sel _ _ j).trans ?_
  rw [p_count, p_max, p8_mul, p_max]
  have e : (fun k : Fin 32 => k0_pay7 (F := Ideal) v39 v40 (ix3 (j 0) (j 1) k)) = fun k : Fin 32 => gatedAt v39 v40 (j 0) ⟨(j 1).val * 32 + k.val, by have h0 := (j 1).isLt; change _ < 192 at h0; omega⟩ :=
    funext fun k => p7 v39 v40 _
  unfold expo gmax
  exact congrArg (fun f : Fin 32 → Ideal .f32 => Scalar.select (Ideal.cmp .oeq (amax f) 0) 0#32 (BitVec.ofNat 32 (Cert.Pow.count (amax f * c448)) - 126#32)) e

theorem p9_mul (v : FVec Ideal S16384x192x32 .f32) (e : IVec S16384x192x1 32) (j : S16384x192x32.Idx) :
    mulf v (broadcastTo S16384x192x32 (select (cmpi .slt e (broadcast S16384x192x1 4294967170#32)) (broadcast S16384x192x1 (Scalar.ofBits .f32 0x00000000#32 : Ideal .f32))
      (select (cmpi .sgt e (broadcast S16384x192x1 127#32)) (broadcast S16384x192x1 (Scalar.ofBits .f32 0x7F800000#32 : Ideal .f32)) (exp2 (sitofp .f32 e)))) broadcasts_S16384x192x1_S16384x192x32) j
      = v j * power (e (ix3 (j 0) (j 1) 0)) := by
  pointwise [power]
  rfl

theorem p9 (v39 : FVec Ideal S64x16384x12288 .f32) (v40 : FVec Ideal S64x1x12288 .f32) (j : S16384x192x32.Idx) :
    k0_pay9 (F := Ideal) v39 v40 j = (k0_pay7 (F := Ideal) v39 v40 j * power (0#32 - k0_pay8 (F := Ideal) v39 v40 (ix3 (j 0) (j 1) 0)) : EReal) := by
  unfold k0_pay9
  exact p9_mul (k0_pay7 (F := Ideal) v39 v40) (subi (broadcast S16384x192x1 0#32) (k0_pay8 (F := Ideal) v39 v40)) j

theorem cast6144 (v : FVec Ideal S16384x192x32 .f32) (j : S16384x6144.Idx) : shapeCast S16384x6144 v shapeCasts_S16384x192x32_S16384x6144 j
    = v (ix3 (j 0) ⟨(j 1).val / 32, by have := (j 1).isLt; change _ < 6144 at this; omega⟩ ⟨(j 1).val % 32, by omega⟩) := by
  pointwise

theorem cast6144_8 (v : FVec Ideal S16384x192x32 .fp8e4m3) (j : S16384x6144.Idx) : shapeCast S16384x6144 v shapeCasts_S16384x192x32_S16384x6144 j
    = v (ix3 (j 0) ⟨(j 1).val / 32, by have := (j 1).isLt; change _ < 6144 at this; omega⟩ ⟨(j 1).val % 32, by omega⟩) := by
  pointwise

/-- The code. -/
def codeR (v39 : FVec Ideal S64x16384x12288 .f32) (v40 : FVec Ideal S64x1x12288 .f32) (r : Fin 16384) (l : Fin 6144) : Ideal .f32 :=
  clip (gatedAt v39 v40 r l * power (0#32 - expo (gmax v39 v40 r ⟨l.val / 32, by omega⟩) c448))

theorem p1 (v39 : FVec Ideal S64x16384x12288 .f32) (v40 : FVec Ideal S64x1x12288 .f32) (j : S16384x6144.Idx) :
    k0_pay1 (F := Ideal) (k0_pay9 v39 v40) (Scalar.ofBits .f32 0xC3E00000#32) j = codeR v39 v40 (j 0) (j 1) := by
  have h1 : (j 1).val < 6144 := (j 1).isLt
  unfold k0_pay1
  refine (cast6144_8 _ j).trans ?_
  refine congrArg clip ((p9 v39 v40 _).trans (congrArg₂ (fun a b : EReal => a * b) ((p7 v39 v40 _).trans ?_) (congrArg (fun e => power (0#32 - e)) (p8 v39 v40 _))))
  exact congrArg (gatedAt v39 v40 (j 0)) (Fin.ext (show (j 1).val / 32 * 32 + (j 1).val % 32 = (j 1).val by omega))

theorem p2 (e : IVec S16384x192x1 32) (j : S16384x192.Idx) : k0_pay2 e j = e (ix3 (j 0) (j 1) 0) + 127#32 := by
  pointwise [k0_pay2]
  rfl

theorem p3 (e : IVec S16384x192x1 32) (j : S24x16384x8.Idx) : k0_pay3 e j = e (ix3 (j 1) ⟨(j 0).val * 8 + (j 2).val, by
    have h0 := (j 0).isLt; have h2 := (j 2).isLt; change _ < 24 at h0; change _ < 8 at h2; omega⟩ 0) + 127#32 := by
  have c : ∀ v : IVec S16384x192 32, transpose S24x16384x8 [1, 0, 2] (shapeCast S16384x24x8 v shapeCasts_S16384x192_S16384x24x8) transposes_S16384x24x8_p1_0_2_S24x16384x8 j
      = v (ix2 (j 1) ⟨(j 0).val * 8 + (j 2).val, by have h0 := (j 0).isLt; have h2 := (j 2).isLt; change _ < 24 at h0; change _ < 8 at h2; omega⟩) := by
    intro v; pointwise
  unfold k0_pay3
  exact (c _).trans (p2 e _)

/-- The biased exponent. -/
theorem p38 (v39 : FVec Ideal S64x16384x12288 .f32) (v40 : FVec Ideal S64x1x12288 .f32) (j : S24x16384x8.Idx) :
    k0_pay3 (k0_pay8 (F := Ideal) v39 v40) j = expo (gmax v39 v40 (j 1) ⟨(j 0).val * 8 + (j 2).val, by
    have h0 := (j 0).isLt; have h2 := (j 2).isLt; change _ < 24 at h0; change _ < 8 at h2; omega⟩) c448 + 127#32 :=
  (p3 _ j).trans (congrArg (fun e => e + 127#32) (p8 v39 v40 _))

theorem deq_mul (x : FVec Ideal S16384x6144 .f32) (e : IVec S16384x192 32) (j : S16384x6144.Idx) :
    shapeCast S16384x6144 (mulf (shapeCast S16384x192x32 x shapeCasts_S16384x6144_S16384x192x32)
      (broadcastTo S16384x192x32 (shapeCast S16384x192x1 (select (cmpi .slt e (broadcast S16384x192 4294967170#32)) (broadcast S16384x192 (Scalar.ofBits .f32 0x00000000#32 : Ideal .f32))
      (select (cmpi .sgt e (broadcast S16384x192 127#32)) (broadcast S16384x192 (Scalar.ofBits .f32 0x7F800000#32 : Ideal .f32)) (exp2 (sitofp .f32 e)))) shapeCasts_S16384x192_S16384x192x1) broadcasts_S16384x192x1_S16384x192x32))
      shapeCasts_S16384x192x32_S16384x6144 j
      = (x j * power (e (ix2 (j 0) ⟨(j 1).val / 32, by have := (j 1).isLt; change _ < 6144 at this; omega⟩)) : EReal) := by
  have h1 : (j 1).val < 6144 := (j 1).isLt
  refine (cast6144 _ j).trans ?_
  have b : ∀ w : FVec Ideal S16384x192 .f32, ∀ i : S16384x192x32.Idx, broadcastTo S16384x192x32 (shapeCast S16384x192x1 w shapeCasts_S16384x192_S16384x192x1) broadcasts_S16384x192x1_S16384x192x32 i = w (ix2 (i 0) (i 1)) := by
    intro w i; pointwise
  refine congrArg₂ (fun a b : EReal => a * b) ((cast192 x _).trans (congrArg x ?_)) ((b _ _).trans ?_)
  · funext a
    match a with
    | ⟨0, _⟩ => rfl
    | ⟨1, _⟩ => exact Fin.ext (show (j 1).val / 32 * 32 + (j 1).val % 32 = (j 1).val by omega)
  · unfold power
    rw [← Ideal.ofBits_zero_f32]
    rfl

/-- The dequantised code. -/
theorem p4 (v39 : FVec Ideal S64x16384x12288 .f32) (v40 : FVec Ideal S64x1x12288 .f32) (j : S16384x6144.Idx) :
    k0_pay4 (F := Ideal) (k0_pay8 (F := Ideal) v39 v40) (k0_pay9 (F := Ideal) v39 v40) (Scalar.ofBits .f32 0xC3E00000#32) j
      = (codeR v39 v40 (j 0) (j 1) * power (expo (gmax v39 v40 (j 0) ⟨(j 1).val / 32, by have := (j 1).isLt; change _ < 6144 at this; omega⟩) c448 + 127#32 - 127#32) : EReal) := by
  unfold k0_pay4
  refine (deq_mul _ _ j).trans ?_
  refine congrArg₂ (fun a b : EReal => a * b) (p1 v39 v40 j) (congrArg (fun e => power (e - 127#32)) ((p2 _ _).trans ?_))
  exact congrArg (fun e => e + 127#32) (p8 v39 v40 _)

end Cert.GateUpRefIdeal.Gen

end
-- ==== Proof.GateUpMatch.lean ====
/- A tile of gated values is the reference's, and so are its block maxima, codes and exponents. -/
module

public import proofs.«01_k».proof.Proof.GateUpHeld
public import proofs.«01_k».proof.Proof.GateUpSum
public import proofs.«01_k».proof.Proof.GateUpRef
public import proofs.«01_k».proof.Proof.GateUpRefRun

@[expose] public section

set_option maxRecDepth 16384

noncomputable section

open Idealize.ShloMosaic Idealize.ShloMosaic.TcCoe Idealize.SL.Sem
open Idealize.ShloMosaic.Pipeline (Dat)
open Cert.Pow (clip amax c448 expo power field)
open Cert.GateUpRefIdeal.Gen (proj gatedAt gmax codeR)

namespace Cert.GateUpIdeal.Value

open Cert.GateUpIdeal Cert.GateUpIdeal.Gen

variable (m : (ℓ : Loc nD τ sig) → Buf (Elt Ideal) ℓ)

/-- The reference's scaled block products, of the kernel's arguments. -/
def P (c : Dev nD) : FVec Ideal Cert.GateUpRefIdeal.S64x16384x12288 .f32 :=
  Cert.GateUpRefIdeal.Gen.k0_pay5 (F := Ideal) (m ((c : Thread nD τ).loc main_arg0)) (m ((c : Thread nD τ).loc main_arg1)) (m ((c : Thread nD τ).loc main_arg2))

/-- The reference's weight scales, of the kernel's argument. -/
def Q (c : Dev nD) : FVec Ideal Cert.GateUpRefIdeal.S64x1x12288 .f32 :=
  Cert.GateUpRefIdeal.Gen.k0_pay6 (F := Ideal) (m ((c : Thread nD τ).loc main_arg3))

/-- A row of the tile in the whole array. -/
def row (t : Fin cfg0.N) (r : Fin 256) : Fin 16384 := ⟨t.val / 24 * 256 + r.val, by have := lt_N t; omega⟩

/-- A column of the tile in the whole array. -/
def col (t : Fin cfg0.N) (l : Fin 256) : Fin 6144 := ⟨t.val % 24 * 256 + l.val, by omega⟩

/-- The gate projection of a tile. -/
theorem gate_eq (c : Dev nD) (t : Fin cfg0.N) (r l : Fin 256) :
    prod (xm (iblk m c 0 t)) (iblk m c 2 t) (sa (iblk m c 1 t)) (k0_pay531 (F := Ideal) (iblk m c 4 t)) r l
      = proj (P m c) (Q m c) (row t r) ⟨(col t l).val, by omega⟩ := by
  rw [prod_eq]
  refine Finset.sum_congr rfl fun g _ => ?_
  refine congrArg₂ (fun a b : EReal => a * b) (Eq.trans ?_ (Cert.GateUpRefIdeal.Gen.p5 _ _ _ _).symm) (Eq.trans ?_ (Cert.GateUpRefIdeal.Gen.p6 _ _).symm)
  · refine congrArg₂ (fun a b : EReal => a * b) (Finset.sum_congr rfl fun k _ => ?_) ?_
    · exact congrArg₂ (fun a b : EReal => a * b) (blk0 m c t _) (blk2 m c t _)
    · exact congrArg (fun b : BitVec 8 => power (b.setWidth 32 - 127#32)) (blk1 m c t _)
  · refine (pay531_at _ g l).trans ((congrArg field (blk4 m c t (ix2 g l))).trans (Cert.Pow.field_setWidth _))

/-- The up projection of a tile. -/
theorem up_eq (c : Dev nD) (t : Fin cfg0.N) (r l : Fin 256) :
    prod (xm (iblk m c 0 t)) (iblk m c 3 t) (sa (iblk m c 1 t)) (k0_pay532 (F := Ideal) (iblk m c 5 t)) r l
      = proj (P m c) (Q m c) (row t r) ⟨6144 + (col t l).val, by omega⟩ := by
  rw [prod_eq]
  refine Finset.sum_congr rfl fun g _ => ?_
  refine congrArg₂ (fun a b : EReal => a * b) (Eq.trans ?_ (Cert.GateUpRefIdeal.Gen.p5 _ _ _ _).symm) (Eq.trans ?_ (Cert.GateUpRefIdeal.Gen.p6 _ _).symm)
  · refine congrArg₂ (fun a b : EReal => a * b) (Finset.sum_congr rfl fun k _ => ?_) ?_
    · exact congrArg₂ (fun a b : EReal => a * b) (blk0 m c t _) (blk3 m c t _)
    · exact congrArg (fun b : BitVec 8 => power (b.setWidth 32 - 127#32)) (blk1 m c t _)
  · refine (pay532_at _ g l).trans ((congrArg field (blk5 m c t (ix2 g l))).trans (Cert.Pow.field_setWidth _))

/-- The gated values. -/
theorem H_eq (c : Dev nD) (t : Fin cfg0.N) (r l : Fin 256) : H m c t r l = gatedAt (P m c) (Q m c) (row t r) (col t l) :=
  congrArg₂ (fun g u : EReal => g * Ideal.logistic g * u) (gate_eq m c t r l) (up_eq m c t r l)

/-- The largest magnitude of a block: the block of column `l` is the array's block `b`. -/
theorem max_eq (c : Dev nD) (t : Fin cfg0.N) (r l : Fin 256) (b : Fin 192) (hb : b.val = t.val % 24 * 8 + l.val / 32) :
    hx (H m c t) r l = gmax (P m c) (Q m c) (row t r) b := by
  refine congrArg (fun f : Fin 32 → Ideal .f32 => amax f) (funext fun k => (H_eq m c t r _).trans ?_)
  refine congrArg (gatedAt (P m c) (Q m c) (row t r)) (Fin.ext ?_)
  show t.val % 24 * 256 + (l.val / 32 * 32 + k.val) = b.val * 32 + k.val
  omega

theorem code_eq (c : Dev nD) (t : Fin cfg0.N) (r l : Fin 256) :
    codeH (H m c t) r l = codeR (P m c) (Q m c) (row t r) (col t l) := by
  refine congrArg clip (congrArg₂ (fun a b : EReal => a * b) (H_eq m c t r l) (congrArg (fun x => power (0#32 - expo x c448)) (max_eq m c t r l _ ?_)))
  show (t.val % 24 * 256 + l.val) / 32 = t.val % 24 * 8 + l.val / 32
  omega

theorem scale_eq (c : Dev nD) (t : Fin cfg0.N) (r l : Fin 256) (b : Fin 192) (hb : b.val = t.val % 24 * 8 + l.val / 32) :
    scaleH (H m c t) r l = expo (gmax (P m c) (Q m c) (row t r) b) c448 + 127#32 :=
  congrArg (fun x => expo x c448 + 127#32) (max_eq m c t r l b hb)

theorem deq_eq (c : Dev nD) (t : Fin cfg0.N) (r l : Fin 256) (b : Fin 192) (hb : b.val = t.val % 24 * 8 + l.val / 32) :
    deqH (H m c t) r l = (codeR (P m c) (Q m c) (row t r) (col t l) * power (expo (gmax (P m c) (Q m c) (row t r) b) c448 + 127#32 - 127#32) : EReal) :=
  congrArg₂ (fun a b : EReal => a * b) (code_eq m c t r l) (congrArg (fun e => power (e - 127#32)) (scale_eq m c t r l b hb))

end Cert.GateUpIdeal.Value

end
-- ==== Proof.GateUpValue.lean ====
/- The three results of `gate_up` against the plain ones: the codes, the block exponents, and the dequantised codes. -/
module

public import proofs.«01_k».proof.Proof.GateUpMatch

@[expose] public section

set_option maxRecDepth 16384

noncomputable section

open Idealize.ShloMosaic Idealize.ShloMosaic.TcCoe Idealize.SL.Sem
open Idealize.ShloMosaic.Pipeline (Dat)
open Cert.Pow (c448 expo power)
open Cert.GateUpRefIdeal.Gen (gmax codeR)

namespace Cert.GateUpRefIdeal.Value

open Cert.GateUpRefIdeal Cert.GateUpRefIdeal.Gen

theorem hz : (![0, 0] : Fin 2 → Nat) = fun _ => 0 := by decide

section
variable (a0 : Vec Ideal S16384x2048 .fp8e4m3) (a1 : Vec Ideal S16384x64 .i8) (a2 : Vec Ideal S2048x12288 .fp8e4m3) (a3 : Vec Ideal S64x12288 .i8)

theorem p10 : k0_pay10 (F := Ideal) a0 a1 a2 a3 = k0_pay5 (F := Ideal) a0 a1 a2 := by
  have e0 : View.ld a0 r0_0 = a0 := View.ld_unit_zero hz _ a0
  have e1 : View.ld a1 r0_1 = a1 := View.ld_unit_zero hz _ a1
  have e2 : View.ld a2 r0_2 = a2 := View.ld_unit_zero hz _ a2
  unfold k0_pay10
  rw [e0, e1, e2]

theorem p11 : k0_pay11 (F := Ideal) a0 a1 a2 a3 = k0_pay6 (F := Ideal) a3 := by
  have e3 : View.ld a3 r0_3 = a3 := View.ld_unit_zero hz _ a3
  unfold k0_pay11
  rw [e3]

theorem p12 : k0_pay12 (F := Ideal) a0 a1 a2 a3 = k0_pay8 (k0_pay5 (F := Ideal) a0 a1 a2) (k0_pay6 (F := Ideal) a3) := by
  unfold k0_pay12
  rw [p10, p11]

theorem p13 : k0_pay13 (F := Ideal) a0 a1 a2 a3 = k0_pay9 (k0_pay5 (F := Ideal) a0 a1 a2) (k0_pay6 (F := Ideal) a3) := by
  unfold k0_pay13
  rw [p10, p11]

theorem G4_at (j : S16384x6144.Idx) : G4 (F := Ideal) a0 a1 a2 a3 j = codeR (k0_pay5 (F := Ideal) a0 a1 a2) (k0_pay6 (F := Ideal) a3) (j 0) (j 1) := by
  unfold G4
  rw [p13]
  exact p1 _ _ j

theorem G5_at (j : S24x16384x8.Idx) : G5 (F := Ideal) a0 a1 a2 a3 j
    = expo (gmax (k0_pay5 (F := Ideal) a0 a1 a2) (k0_pay6 (F := Ideal) a3) (j 1) ⟨(j 0).val * 8 + (j 2).val, by
    have h0 := (j 0).isLt; have h2 := (j 2).isLt; change _ < 24 at h0; change _ < 8 at h2; omega⟩) c448 + 127#32 := by
  unfold G5
  rw [p12]
  exact p38 _ _ j

theorem G6_at (j : S16384x6144.Idx) : G6 (F := Ideal) a0 a1 a2 a3 j
    = (codeR (k0_pay5 (F := Ideal) a0 a1 a2) (k0_pay6 (F := Ideal) a3) (j 0) (j 1)
      * power (expo (gmax (k0_pay5 (F := Ideal) a0 a1 a2) (k0_pay6 (F := Ideal) a3) (j 0) ⟨(j 1).val / 32, by have := (j 1).isLt; change _ < 6144 at this; omega⟩) c448 + 127#32 - 127#32) : EReal) := by
  unfold G6
  rw [p12, p13]
  exact p4 _ _ j
end

end Cert.GateUpRefIdeal.Value

namespace Cert.GateUpIdeal.Value

open Cert.GateUpIdeal Cert.GateUpIdeal.Gen

variable (m : (ℓ : Loc nD τ sig) → Buf (Elt Ideal) ℓ)

/-! ## Where a block lies in its array -/

theorem row6 (t : Fin cfg0.N) (y : S256x256.Idx) : row t (y 0) = (win0_6.blk t).view.emb y 0 := by
  have e : win0_6.index t (0 : Fin 2) = t.val / 24 := congrFun (idxO t).1 0
  exact Fin.ext (show t.val / 24 * 256 + (y 0).val = win0_6.index t (0 : Fin 2) * 256 + 1 * (y 0).val by omega)

theorem col6 (t : Fin cfg0.N) (y : S256x256.Idx) : col t (y 1) = (win0_6.blk t).view.emb y 1 := by
  have e : win0_6.index t (1 : Fin 2) = t.val % 24 := congrFun (idxO t).1 1
  exact Fin.ext (show t.val % 24 * 256 + (y 1).val = win0_6.index t (1 : Fin 2) * 256 + 1 * (y 1).val by omega)

theorem row8 (t : Fin cfg0.N) (y : S256x256.Idx) : row t (y 0) = (win0_8.blk t).view.emb y 0 := by
  have e : win0_8.index t (0 : Fin 2) = t.val / 24 := congrFun (idxO t).2.2 0
  exact Fin.ext (show t.val / 24 * 256 + (y 0).val = win0_8.index t (0 : Fin 2) * 256 + 1 * (y 0).val by omega)

theorem col8 (t : Fin cfg0.N) (y : S256x256.Idx) : col t (y 1) = (win0_8.blk t).view.emb y 1 := by
  have e : win0_8.index t (1 : Fin 2) = t.val % 24 := congrFun (idxO t).2.2 1
  exact Fin.ext (show t.val % 24 * 256 + (y 1).val = win0_8.index t (1 : Fin 2) * 256 + 1 * (y 1).val by omega)

theorem row7 (t : Fin cfg0.N) (y : S1x256x8.Idx) : row t (y 1) = (win0_7.blk t).view.emb y 1 := by
  have e : win0_7.index t (1 : Fin 3) = t.val / 24 := congrFun (idxO t).2.1 1
  exact Fin.ext (show t.val / 24 * 256 + (y 1).val = win0_7.index t (1 : Fin 3) * 256 + 1 * (y 1).val by omega)

theorem group7 (t : Fin cfg0.N) (y : S1x256x8.Idx) : ((win0_7.blk t).view.emb y 0).val = t.val % 24 := by
  have e : win0_7.index t (0 : Fin 3) = t.val % 24 := congrFun (idxO t).2.1 0
  have h : (y 0).val < 1 := (y 0).isLt
  exact (show win0_7.index t (0 : Fin 3) * 1 + 1 * (y 0).val = t.val % 24 by omega)

theorem member7 (t : Fin cfg0.N) (y : S1x256x8.Idx) : ((win0_7.blk t).view.emb y 2).val = (y 2).val := by
  have e : win0_7.index t (2 : Fin 3) = 0 := congrFun (idxO t).2.1 2
  exact (show win0_7.index t (2 : Fin 3) * 8 + 1 * (y 2).val = (y 2).val by omega)

/-! ## The three arrays -/

/-- The codes. -/
theorem final6 (c : Dev nD) : (dats m 0 c).arrAt 6 (cfgs 0).N
    = Cert.GateUpRefIdeal.Value.G4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  refine (stored6 m c t _).trans ((code_eq m c t _ _).trans (Eq.trans ?_ (Cert.GateUpRefIdeal.Value.G4_at _ _ _ _ _).symm))
  exact congrArg₂ (codeR (P m c) (Q m c)) (row6 t y) (col6 t y)

/-- The block exponents. -/
theorem final7 (c : Dev nD) : (dats m 0 c).arrAt 7 (cfgs 0).N
    = Cert.GateUpRefIdeal.Value.G5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  have h2 : (y 2).val < 8 := (y 2).isLt
  refine (stored7 m c t _).trans ((scale_eq m c t _ _ ⟨t.val % 24 * 8 + (y 2).val, by omega⟩ ?_).trans (Eq.trans ?_ (Cert.GateUpRefIdeal.Value.G5_at _ _ _ _ _).symm))
  · show t.val % 24 * 8 + (y 2).val = t.val % 24 * 8 + 32 * (y 2).val / 32
    omega
  · refine congrArg (fun x => expo x c448 + 127#32) (congrArg₂ (gmax (P m c) (Q m c)) (row7 t y) (Fin.ext ?_))
    exact congrArg₂ (fun a b : ℕ => a * 8 + b) (group7 t y).symm (member7 t y).symm

/-- The dequantised codes. -/
theorem final8 (c : Dev nD) : (dats m 0 c).arrAt 8 (cfgs 0).N
    = Cert.GateUpRefIdeal.Value.G6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  have h1 : (y 1).val < 256 := (y 1).isLt
  refine (stored8 m c t _).trans ((deq_eq m c t _ _ ⟨(col t (y 1)).val / 32, by have := (col t (y 1)).isLt; omega⟩ ?_).trans (Eq.trans ?_ (Cert.GateUpRefIdeal.Value.G6_at _ _ _ _ _).symm))
  · show (t.val % 24 * 256 + (y 1).val) / 32 = t.val % 24 * 8 + (y 1).val / 32
    omega
  · exact congrArg₂ (fun (r : Fin 16384) (l : Fin 6144) => (codeR (P m c) (Q m c) r l
      * power (expo (gmax (P m c) (Q m c) r ⟨l.val / 32, by omega⟩) c448 + 127#32 - 127#32) : EReal)) (row8 t y) (col8 t y)

end Cert.GateUpIdeal.Value

/-- The gate and up projections, the gating and the quantiser against the plain ones. -/
theorem Cert.GateUpIdeal.Value.algebraic : Cert.algebraic_GateUpIdeal_GateUpRefIdeal := by
  pair_intro
  · run_from Cert.GateUpIdeal.Gen.run_main m g
  · refine θ_run_mono (Cert.GateUpRefIdeal.Value.run m' g') ?_
    intro r hr c
    obtain ⟨h4, h5, h6, h⟩ := hr c
    obtain ⟨e0, e1, e2, e3⟩ := hagree c
    rw [e0, e1, e2, e3] at h4 h5 h6
    exact ⟨h4.trans (Cert.GateUpIdeal.Value.final6 m c).symm, h5.trans (Cert.GateUpIdeal.Value.final7 m c).symm,
      h6.trans (Cert.GateUpIdeal.Value.final8 m c).symm, h⟩
end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Dequant
public import proofs.«01_k».proof.Proof.Gen.Dequant.Skeleton
public import proofs.«01_k».proof.Proof.Gen.Dequant.Launch
public import proofs.«01_k».proof.Proof.Gen.Dequant.Points
public import proofs.«01_k».proof.Proof.Gen.Dequant.Frame
public import proofs.«01_k».proof.Proof.Gen.DequantIdeal
public import proofs.«01_k».proof.Proof.Gen.DequantIdeal.Skeleton
public import proofs.«01_k».proof.Proof.Gen.DequantIdeal.Launch
public import proofs.«01_k».proof.Proof.Gen.DequantIdeal.Points
public import proofs.«01_k».proof.Proof.Gen.DequantIdeal.Frame
public import proofs.«01_k».proof.Proof.Gen.DequantRefIdeal
public import proofs.«01_k».proof.Proof.Gen.DequantRefIdeal.Skeleton
public import proofs.«01_k».proof.Proof.Gen.DequantRefIdeal.Launch
public import proofs.«01_k».proof.Proof.Gen.DequantRefIdeal.Points
public import proofs.«01_k».proof.Proof.Gen.DequantRefIdeal.Frame
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.Gen.QuantX.Frame
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXIdeal.Points
public import proofs.«01_k».proof.Proof.Gen.QuantXIdeal.Frame
public import proofs.«01_k».proof.Proof.Gen.QuantXRefIdeal
public import proofs.«01_k».proof.Proof.Gen.QuantXRefIdeal.Skeleton
public import proofs.«01_k».proof.Proof.Gen.QuantXRefIdeal.Launch
public import proofs.«01_k».proof.Proof.Gen.QuantXRefIdeal.Points
public import proofs.«01_k».proof.Proof.Gen.QuantXRefIdeal.Frame
public import proofs.«01_k».proof.Proof.Gen.GateUp
public import proofs.«01_k».proof.Proof.Gen.GateUp.Skeleton
public import proofs.«01_k».proof.Proof.Gen.GateUp.Loops
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Loops
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.DownIdeal.Value
public import proofs.«01_k».proof.Proof.Gen.DequantIdeal.Value
public import proofs.«01_k».proof.Proof.Gen.QuantXIdeal.Value
public import proofs.«01_k».proof.Proof.Gen.DequantRefIdeal.Value
public import proofs.«01_k».proof.Proof.Gen.QuantXRefIdeal.Value
public import proofs.«01_k».proof.Proof.Gen.DownRefIdeal.Run
public import proofs.«01_k».proof.Proof.Gen.DownRefIdeal.Read
public import proofs.«01_k».proof.Proof.DownValue
public import proofs.«01_k».proof.Proof.DequantValue
public import proofs.«01_k».proof.Proof.QuantXValue
public import proofs.«01_k».proof.Proof.GateUpValue
public import Idealize.ShloMosaic.Adequacy
public import Idealize.ShloMosaic.Init

@[expose] public section

noncomputable section

namespace Cert.Proof

open Idealize.ShloMosaic Idealize.SL.Sem Cert.Down

/-- The reference of the down product runs, keeps its arguments, and leaves every semaphore at zero. -/
theorem frame_down_ref : Cert.quiescent_DownRefIdeal := by
  intro m ρ _
  exact (θ_run Cert.DownRefIdeal.defs _ _).mono (fun r h => ⟨fun c => ⟨(h c).2.1, (h c).2.2⟩,
    Idealize.ShloMosaic.sem_eq_zero_of_no_sems (by decide) r.2⟩) (Cert.DownRefIdeal.Value.run (F := Ideal) m ρ)

theorem claim : Cert.Claim := ⟨Cert.Down.Gen.facts, Cert.DownIdeal.Gen.facts, Cert.DownRefIdeal.Gen.facts, Cert.Dequant.Gen.facts, Cert.DequantIdeal.Gen.facts, Cert.DequantRefIdeal.Gen.facts, Cert.QuantX.Gen.facts, Cert.QuantXIdeal.Gen.facts, Cert.QuantXRefIdeal.Gen.facts, Cert.GateUp.Gen.facts, Cert.GateUpIdeal.Gen.facts, Cert.GateUpRefIdeal.Gen.facts,
  fun m ρ _ => Cert.Down.Gen.frame m ρ, fun m ρ _ => Cert.DownIdeal.Gen.frame m ρ, frame_down_ref,
  fun m ρ _ => Cert.Dequant.Gen.frame m ρ, fun m ρ _ => Cert.DequantIdeal.Gen.frame m ρ, fun m ρ _ => Cert.DequantRefIdeal.Gen.frame m ρ,
  fun m ρ _ => Cert.QuantX.Gen.frame m ρ, fun m ρ _ => Cert.QuantXIdeal.Gen.frame m ρ, fun m ρ _ => Cert.QuantXRefIdeal.Gen.frame m ρ,
  fun m ρ _ => Cert.GateUp.Gen.frame m ρ, fun m ρ _ => Cert.GateUpIdeal.Gen.frame m ρ, fun m ρ _ => Cert.GateUpRefIdeal.Gen.frame m ρ,
  trivial, Cert.DownIdeal.Value.algebraic,
  trivial, Cert.DequantIdeal.Value.algebraic,
  trivial, Cert.QuantXIdeal.Value.algebraic,
  trivial, Cert.GateUpIdeal.Value.algebraic⟩

end Cert.Proof

end
